-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)) (v4 : (c : Dev Cert.KernelIdeal.nD) → Buf (Elt Ideal) ((c.tc : Thread Cert.KernelIdeal.nD Cert.KernelIdeal.τ).loc Cert.KernelIdeal.main_v12_4)) (v5 : (c : Dev Cert.KernelIdeal.nD) → Buf (Elt Ideal) ((c.tc : Thread Cert.KernelIdeal.nD Cert.KernelIdeal.τ).loc Cert.KernelIdeal.main_v12_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_v12_4) = v4 c
          ∧ r.2.mem ((c.tc : Thread Cert.KernelIdeal.nD Cert.KernelIdeal.τ).loc Cert.KernelIdeal.main_v12_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_0) = v0 c
          ∧ r.2.mem ((c.tc : Thread Cert.ReferenceIdeal.nD Cert.ReferenceIdeal.τ).loc Cert.ReferenceIdeal.main_v11_1) = v1 c
          ∧ r.2.mem ((c.tc : Thread Cert.ReferenceIdeal.nD Cert.ReferenceIdeal.τ).loc Cert.ReferenceIdeal.main_v11_2) = v2 c
          ∧ r.2.mem ((c.tc : Thread Cert.ReferenceIdeal.nD Cert.ReferenceIdeal.τ).loc Cert.ReferenceIdeal.main_v11_3) = v3 c
          ∧ r.2.mem ((c.tc : Thread Cert.ReferenceIdeal.nD Cert.ReferenceIdeal.τ).loc Cert.ReferenceIdeal.main_v11_4) = v4 c
          ∧ r.2.mem ((c.tc : Thread Cert.ReferenceIdeal.nD Cert.ReferenceIdeal.τ).loc Cert.ReferenceIdeal.main_v11_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4096x4608 : Shape := ⟨3, ![6, 4096, 4608]⟩
abbrev S6x4096 : Shape := ⟨2, ![6, 4096]⟩
abbrev S6x4096x12288 : Shape := ⟨3, ![6, 4096, 12288]⟩
abbrev S4608x12288 : Shape := ⟨2, ![4608, 12288]⟩
abbrev S4608x96 : Shape := ⟨2, ![4608, 96]⟩
abbrev S_ : Shape := ⟨0, ![]⟩
abbrev S1 : Shape := ⟨1, ![1]⟩
abbrev S2 : Shape := ⟨1, ![2]⟩
abbrev S24576x4608 : Shape := ⟨2, ![24576, 4608]⟩
abbrev S24576x1 : Shape := ⟨2, ![24576, 1]⟩
abbrev S24576x12288 : Shape := ⟨2, ![24576, 12288]⟩
abbrev S1024x768 : Shape := ⟨2, ![1024, 768]⟩
abbrev S1024x1 : Shape := ⟨2, ![1024, 1]⟩
abbrev S1024x1536 : Shape := ⟨2, ![1024, 1536]⟩
abbrev S768x1536 : Shape := ⟨2, ![768, 1536]⟩
abbrev S768x96 : Shape := ⟨2, ![768, 96]⟩
abbrev S32x96 : Shape := ⟨2, ![32, 96]⟩
abbrev S32 : Shape := ⟨1, ![32]⟩
abbrev S32x1 : Shape := ⟨2, ![32, 1]⟩
abbrev S32x128 : Shape := ⟨2, ![32, 128]⟩
abbrev S1x256 : Shape := ⟨2, ![1, 256]⟩
abbrev S32x256 : Shape := ⟨2, ![32, 256]⟩

abbrev nBuf : Space → Nat
  | .hbm => 32
  | .vmem => 31
  | .smem => 1
  | _ => 0

abbrev bufTy : (tb : Table) → Fin (tcTables nBuf tb) → BufTy
  | .hbm, ⟨0, _⟩ => ⟨S6x4096x4608, .fp8e4m3⟩
  | .hbm, ⟨1, _⟩ => ⟨S6x4096, .f32⟩
  | .hbm, ⟨2, _⟩ => ⟨S6x4096x12288, .fp8e5m2⟩
  | .hbm, ⟨3, _⟩ => ⟨S6x4096, .f32⟩
  | .hbm, ⟨4, _⟩ => ⟨S4608x12288, .bf16⟩
  | .hbm, ⟨5, _⟩ => ⟨S4608x12288, .fp8e4m3⟩
  | .hbm, ⟨6, _⟩ => ⟨S4608x96, .f32⟩
  | .hbm, ⟨7, _⟩ => ⟨S4608x12288, .fp8e4m3⟩
  | .hbm, ⟨8, _⟩ => ⟨S4608x96, .f32⟩
  | .hbm, ⟨9, _⟩ => ⟨S_, .i32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S2, .f32⟩
  | .hbm, ⟨22, _⟩ => ⟨S24576x4608, .fp8e4m3⟩
  | .hbm, ⟨23, _⟩ => ⟨S24576x1, .f32⟩
  | .hbm, ⟨24, _⟩ => ⟨S24576x12288, .fp8e5m2⟩
  | .hbm, ⟨25, _⟩ => ⟨S24576x1, .f32⟩
  | .hbm, ⟨26, _⟩ => ⟨S4608x12288, .bf16⟩
  | .hbm, ⟨27, _⟩ => ⟨S4608x12288, .f32⟩
  | .hbm, ⟨28, _⟩ => ⟨S4608x12288, .fp8e4m3⟩
  | .hbm, ⟨29, _⟩ => ⟨S4608x96, .f32⟩
  | .hbm, ⟨30, _⟩ => ⟨S4608x12288, .fp8e4m3⟩
  | .hbm, ⟨31, _⟩ => ⟨S4608x96, .f32⟩
  | .local _ .vmem, ⟨0, _⟩ => ⟨S1024x768, .fp8e4m3⟩
  | .local _ .vmem, ⟨1, _⟩ => ⟨S1024x768, .fp8e4m3⟩
  | .local _ .vmem, ⟨2, _⟩ => ⟨S1024x1, .f32⟩
  | .local _ .vmem, ⟨3, _⟩ => ⟨S1024x1, .f32⟩
  | .local _ .vmem, ⟨4, _⟩ => ⟨S1024x1536, .fp8e5m2⟩
  | .local _ .vmem, ⟨5, _⟩ => ⟨S1024x1536, .fp8e5m2⟩
  | .local _ .vmem, ⟨6, _⟩ => ⟨S1024x1, .f32⟩
  | .local _ .vmem, ⟨7, _⟩ => ⟨S1024x1, .f32⟩
  | .local _ .vmem, ⟨8, _⟩ => ⟨S768x1536, .bf16⟩
  | .local _ .vmem, ⟨9, _⟩ => ⟨S768x1536, .bf16⟩
  | .local _ .vmem, ⟨10, _⟩ => ⟨S768x1536, .fp8e4m3⟩
  | .local _ .vmem, ⟨11, _⟩ => ⟨S768x1536, .fp8e4m3⟩
  | .local _ .vmem, ⟨12, _⟩ => ⟨S768x96, .f32⟩
  | .local _ .vmem, ⟨13, _⟩ => ⟨S768x96, .f32⟩
  | .local _ .vmem, ⟨14, _⟩ => ⟨S768x1536, .fp8e4m3⟩
  | .local _ .vmem, ⟨15, _⟩ => ⟨S768x1536, .fp8e4m3⟩
  | .local _ .vmem, ⟨16, _⟩ => ⟨S768x96, .f32⟩
  | .local _ .vmem, ⟨17, _⟩ => ⟨S768x96, .f32⟩
  | .local _ .vmem, ⟨18, _⟩ => ⟨S768x1536, .bf16⟩
  | .local _ .vmem, ⟨19, _⟩ => ⟨S768x1536, .bf16⟩
  | .local _ .vmem, ⟨20, _⟩ => ⟨S768x1536, .f32⟩
  | .local _ .vmem, ⟨21, _⟩ => ⟨S768x1536, .f32⟩
  | .local _ .vmem, ⟨22, _⟩ => ⟨S768x1536, .fp8e4m3⟩
  | .local _ .vmem, ⟨23, _⟩ => ⟨S768x1536, .fp8e4m3⟩
  | .local _ .vmem, ⟨24, _⟩ => ⟨S768x96, .f32⟩
  | .local _ .vmem, ⟨25, _⟩ => ⟨S768x96, .f32⟩
  | .local _ .vmem, ⟨26, _⟩ => ⟨S768x1536, .fp8e4m3⟩
  | .local _ .vmem, ⟨27, _⟩ => ⟨S768x1536, .fp8e4m3⟩
  | .local _ .vmem, ⟨28, _⟩ => ⟨S768x96, .f32⟩
  | .local _ .vmem, ⟨29, _⟩ => ⟨S768x96, .f32⟩
  | .local _ .vmem, ⟨30, _⟩ => ⟨S768x1536, .f32⟩
  | .local _ .smem, ⟨0, _⟩ => ⟨S2, .f32⟩
  | _, _ => ⟨S6x4096x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_cst_2 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev main_v12_3 : Ref sig .tc := ⟨.hbm, 29, rfl⟩
abbrev main_v12_4 : Ref sig .tc := ⟨.hbm, 30, rfl⟩
abbrev main_v12_5 : Ref sig .tc := ⟨.hbm, 31, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_scratch0 : Ref sig .tc := ⟨.vmem, 30, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨3, ![6, 8, 24], ![false, false, false]⟩

def k0_cond2 (i : grid0.Coords) : BitVec 1 :=
  let arg2 : BitVec 32 := BitVec.ofNat 32 (i 2).val
  let c23_i32 : BitVec 32 := 23#32
  let v25 : BitVec 1 := Scalar.cmpi .eq arg2 c23_i32
  let v26 : BitVec 32 := Scalar.extui v25
  let c0_i32_12 : BitVec 32 := 0#32
  let v27 : BitVec 1 := Scalar.cmpi .ne v26 c0_i32_12
  v27

@[reducible] def k0_t1_loop : Scf.Loop 32 :=
  let c0_i32_14 : BitVec 32 := 0#32
  let c24_i32 : BitVec 32 := 24#32
  let v30 : BitVec 32 := Scalar.addi c0_i32_14 c24_i32
  let c1_i32 : BitVec 32 := 1#32
  ⟨c0_i32_14, v30, c1_i32⟩
def k0_mult1 (k0_t1 : Fin k0_t1_loop.trips) : BitVec 32 :=
  let c0_i32_14 : BitVec 32 := 0#32
  let c1_i32 : BitVec 32 := 1#32
  let arg20 : BitVec 32 := Scf.iv c0_i32_14 c1_i32 k0_t1
  let c32_i32 : BitVec 32 := 32#32
  let v31 : BitVec 32 := Scalar.muli arg20 c32_i32
  v31
def k0_off1 (k0_t1 : Fin k0_t1_loop.trips) : Fin 2 → Nat :=
  let c0_i32_14 : BitVec 32 := 0#32
  let c1_i32 : BitVec 32 := 1#32
  let arg20 : BitVec 32 := Scf.iv c0_i32_14 c1_i32 k0_t1
  let c32_i32 : BitVec 32 := 32#32
  let v31 : BitVec 32 := Scalar.muli arg20 c32_i32
  let v32 : BitVec 32 := v31
  let v33 : Index := Scalar.indexCast v32
  let c0_16 : Index := 0#32
  ![v33.toNat, 0]
def k0_off2 (k0_t1 : Fin k0_t1_loop.trips) : Fin 2 → Nat :=
  let c0_i32_14 : BitVec 32 := 0#32
  let c1_i32 : BitVec 32 := 1#32
  let arg20 : BitVec 32 := Scf.iv c0_i32_14 c1_i32 k0_t1
  let c32_i32 : BitVec 32 := 32#32
  let v31 : BitVec 32 := Scalar.muli arg20 c32_i32
  let v32 : BitVec 32 := v31
  let v56 : Index := Scalar.indexCast v32
  let c0_25 : Index := 0#32
  ![v56.toNat, 0]
def k0_off3 (k0_t1 : Fin k0_t1_loop.trips) : Fin 2 → Nat :=
  let c0_i32_14 : BitVec 32 := 0#32
  let c1_i32 : BitVec 32 := 1#32
  let arg20 : BitVec 32 := Scf.iv c0_i32_14 c1_i32 k0_t1
  let c32_i32 : BitVec 32 := 32#32
  let v31 : BitVec 32 := Scalar.muli arg20 c32_i32
  let v32 : BitVec 32 := v31
  let v208 : Index := Scalar.indexCast v32
  let c128 : Index := 128#32
  ![v208.toNat, 128]
def k0_off4 (k0_t1 : Fin k0_t1_loop.trips) : Fin 2 → Nat :=
  let c0_i32_14 : BitVec 32 := 0#32
  let c1_i32 : BitVec 32 := 1#32
  let arg20 : BitVec 32 := Scf.iv c0_i32_14 c1_i32 k0_t1
  let c32_i32 : BitVec 32 := 32#32
  let v31 : BitVec 32 := Scalar.muli arg20 c32_i32
  let v32 : BitVec 32 := v31
  let v360 : Index := Scalar.indexCast v32
  let c256 : Index := 256#32
  ![v360.toNat, 256]
def k0_off5 (k0_t1 : Fin k0_t1_loop.trips) : Fin 2 → Nat :=
  let c0_i32_14 : BitVec 32 := 0#32
  let c1_i32 : BitVec 32 := 1#32
  let arg20 : BitVec 32 := Scf.iv c0_i32_14 c1_i32 k0_t1
  let c32_i32 : BitVec 32 := 32#32
  let v31 : BitVec 32 := Scalar.muli arg20 c32_i32
  let v32 : BitVec 32 := v31
  let v512 : Index := Scalar.indexCast v32
  let c384 : Index := 384#32
  ![v512.toNat, 384]
def k0_off6 (k0_t1 : Fin k0_t1_loop.trips) : Fin 2 → Nat :=
  let c0_i32_14 : BitVec 32 := 0#32
  let c1_i32 : BitVec 32 := 1#32
  let arg20 : BitVec 32 := Scf.iv c0_i32_14 c1_i32 k0_t1
  let c32_i32 : BitVec 32 := 32#32
  let v31 : BitVec 32 := Scalar.muli arg20 c32_i32
  let v32 : BitVec 32 := v31
  let v664 : Index := Scalar.indexCast v32
  let c512 : Index := 512#32
  ![v664.toNat, 512]
def k0_off7 (k0_t1 : Fin k0_t1_loop.trips) : Fin 2 → Nat :=
  let c0_i32_14 : BitVec 32 := 0#32
  let c1_i32 : BitVec 32 := 1#32
  let arg20 : BitVec 32 := Scf.iv c0_i32_14 c1_i32 k0_t1
  let c32_i32 : BitVec 32 := 32#32
  let v31 : BitVec 32 := Scalar.muli arg20 c32_i32
  let v32 : BitVec 32 := v31
  let v816 : Index := Scalar.indexCast v32
  let c640 : Index := 640#32
  ![v816.toNat, 640]
def k0_off8 (k0_t1 : Fin k0_t1_loop.trips) : Fin 2 → Nat :=
  let c0_i32_14 : BitVec 32 := 0#32
  let c1_i32 : BitVec 32 := 1#32
  let arg20 : BitVec 32 := Scf.iv c0_i32_14 c1_i32 k0_t1
  let c32_i32 : BitVec 32 := 32#32
  let v31 : BitVec 32 := Scalar.muli arg20 c32_i32
  let v32 : BitVec 32 := v31
  let v968 : Index := Scalar.indexCast v32
  let c768 : Index := 768#32
  ![v968.toNat, 768]
def k0_off9 (k0_t1 : Fin k0_t1_loop.trips) : Fin 2 → Nat :=
  let c0_i32_14 : BitVec 32 := 0#32
  let c1_i32 : BitVec 32 := 1#32
  let arg20 : BitVec 32 := Scf.iv c0_i32_14 c1_i32 k0_t1
  let c32_i32 : BitVec 32 := 32#32
  let v31 : BitVec 32 := Scalar.muli arg20 c32_i32
  let v32 : BitVec 32 := v31
  let v1120 : Index := Scalar.indexCast v32
  let c896 : Index := 896#32
  ![v1120.toNat, 896]
def k0_off10 (k0_t1 : Fin k0_t1_loop.trips) : Fin 2 → Nat :=
  let c0_i32_14 : BitVec 32 := 0#32
  let c1_i32 : BitVec 32 := 1#32
  let arg20 : BitVec 32 := Scf.iv c0_i32_14 c1_i32 k0_t1
  let c32_i32 : BitVec 32 := 32#32
  let v31 : BitVec 32 := Scalar.muli arg20 c32_i32
  let v32 : BitVec 32 := v31
  let v1272 : Index := Scalar.indexCast v32
  let c1024 : Index := 1024#32
  ![v1272.toNat, 1024]
def k0_off11 (k0_t1 : Fin k0_t1_loop.trips) : Fin 2 → Nat :=
  let c0_i32_14 : BitVec 32 := 0#32
  let c1_i32 : BitVec 32 := 1#32
  let arg20 : BitVec 32 := Scf.iv c0_i32_14 c1_i32 k0_t1
  let c32_i32 : BitVec 32 := 32#32
  let v31 : BitVec 32 := Scalar.muli arg20 c32_i32
  let v32 : BitVec 32 := v31
  let v1424 : Index := Scalar.indexCast v32
  let c1152 : Index := 1152#32
  ![v1424.toNat, 1152]
def k0_off12 (k0_t1 : Fin k0_t1_loop.trips) : Fin 2 → Nat :=
  let c0_i32_14 : BitVec 32 := 0#32
  let c1_i32 : BitVec 32 := 1#32
  let arg20 : BitVec 32 := Scf.iv c0_i32_14 c1_i32 k0_t1
  let c32_i32 : BitVec 32 := 32#32
  let v31 : BitVec 32 := Scalar.muli arg20 c32_i32
  let v32 : BitVec 32 := v31
  let v1576 : Index := Scalar.indexCast v32
  let c1280 : Index := 1280#32
  ![v1576.toNat, 1280]
def k0_off13 (k0_t1 : Fin k0_t1_loop.trips) : Fin 2 → Nat :=
  let c0_i32_14 : BitVec 32 := 0#32
  let c1_i32 : BitVec 32 := 1#32
  let arg20 : BitVec 32 := Scf.iv c0_i32_14 c1_i32 k0_t1
  let c32_i32 : BitVec 32 := 32#32
  let v31 : BitVec 32 := Scalar.muli arg20 c32_i32
  let v32 : BitVec 32 := v31
  let v1728 : Index := Scalar.indexCast v32
  let c1408 : Index := 1408#32
  ![v1728.toNat, 1408]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1024x768 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x1536 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S768x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S768x1536 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S768x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S768x1536 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S768x96 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S768x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S768x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S768x1536 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S768x96 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false]

abbrev stage0_14 : Fin 2 → Memref sig .tc .vmem S768x1536 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S768x96 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false, false]
-- ==== ReferenceIdeal.lean ====
abbrev S6x4096x4608 : Shape := ⟨3, ![6, 4096, 4608]⟩
abbrev S6x4096 : Shape := ⟨2, ![6, 4096]⟩
abbrev S6x4096x12288 : Shape := ⟨3, ![6, 4096, 12288]⟩
abbrev S4608x12288 : Shape := ⟨2, ![4608, 12288]⟩
abbrev S4608x96 : Shape := ⟨2, ![4608, 96]⟩
abbrev S_ : Shape := ⟨0, ![]⟩
abbrev S1x1x1 : Shape := ⟨3, ![1, 1, 1]⟩
abbrev S24576x4608 : Shape := ⟨2, ![24576, 4608]⟩
abbrev S24576x1 : Shape := ⟨2, ![24576, 1]⟩
abbrev S24576x12288 : Shape := ⟨2, ![24576, 12288]⟩
abbrev S4608x96x128 : Shape := ⟨3, ![4608, 96, 128]⟩
abbrev S4608x96x1 : Shape := ⟨3, ![4608, 96, 1]⟩

abbrev nBuf : Space → Nat
  | .hbm => 31
  | .vmem => 17
  | .smem => 0
  | _ => 0

abbrev bufTy : (tb : Table) → Fin (tcTables nBuf tb) → BufTy
  | .hbm, ⟨0, _⟩ => ⟨S6x4096x4608, .fp8e4m3⟩
  | .hbm, ⟨1, _⟩ => ⟨S6x4096, .f32⟩
  | .hbm, ⟨2, _⟩ => ⟨S6x4096x12288, .fp8e5m2⟩
  | .hbm, ⟨3, _⟩ => ⟨S6x4096, .f32⟩
  | .hbm, ⟨4, _⟩ => ⟨S4608x12288, .bf16⟩
  | .hbm, ⟨5, _⟩ => ⟨S4608x12288, .fp8e4m3⟩
  | .hbm, ⟨6, _⟩ => ⟨S4608x96, .f32⟩
  | .hbm, ⟨7, _⟩ => ⟨S4608x12288, .fp8e4m3⟩
  | .hbm, ⟨8, _⟩ => ⟨S4608x96, .f32⟩
  | .hbm, ⟨9, _⟩ => ⟨S_, .i32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x1x1, .f32⟩
  | .hbm, ⟨21, _⟩ => ⟨S24576x4608, .fp8e4m3⟩
  | .hbm, ⟨22, _⟩ => ⟨S24576x1, .f32⟩
  | .hbm, ⟨23, _⟩ => ⟨S24576x12288, .fp8e5m2⟩
  | .hbm, ⟨24, _⟩ => ⟨S24576x1, .f32⟩
  | .hbm, ⟨25, _⟩ => ⟨S4608x12288, .bf16⟩
  | .hbm, ⟨26, _⟩ => ⟨S4608x12288, .f32⟩
  | .hbm, ⟨27, _⟩ => ⟨S4608x12288, .fp8e4m3⟩
  | .hbm, ⟨28, _⟩ => ⟨S4608x96, .f32⟩
  | .hbm, ⟨29, _⟩ => ⟨S4608x12288, .fp8e4m3⟩
  | .hbm, ⟨30, _⟩ => ⟨S4608x96, .f32⟩
  | .local _ .vmem, ⟨0, _⟩ => ⟨S1x1x1, .f32⟩
  | .local _ .vmem, ⟨1, _⟩ => ⟨S1x1x1, .f32⟩
  | .local _ .vmem, ⟨2, _⟩ => ⟨S24576x4608, .fp8e4m3⟩
  | .local _ .vmem, ⟨3, _⟩ => ⟨S24576x1, .f32⟩
  | .local _ .vmem, ⟨4, _⟩ => ⟨S24576x12288, .fp8e5m2⟩
  | .local _ .vmem, ⟨5, _⟩ => ⟨S24576x1, .f32⟩
  | .local _ .vmem, ⟨6, _⟩ => ⟨S4608x12288, .bf16⟩
  | .local _ .vmem, ⟨7, _⟩ => ⟨S4608x12288, .fp8e4m3⟩
  | .local _ .vmem, ⟨8, _⟩ => ⟨S4608x96, .f32⟩
  | .local _ .vmem, ⟨9, _⟩ => ⟨S4608x12288, .fp8e4m3⟩
  | .local _ .vmem, ⟨10, _⟩ => ⟨S4608x96, .f32⟩
  | .local _ .vmem, ⟨11, _⟩ => ⟨S4608x12288, .bf16⟩
  | .local _ .vmem, ⟨12, _⟩ => ⟨S4608x12288, .f32⟩
  | .local _ .vmem, ⟨13, _⟩ => ⟨S4608x12288, .fp8e4m3⟩
  | .local _ .vmem, ⟨14, _⟩ => ⟨S4608x96, .f32⟩
  | .local _ .vmem, ⟨15, _⟩ => ⟨S4608x12288, .fp8e4m3⟩
  | .local _ .vmem, ⟨16, _⟩ => ⟨S4608x96, .f32⟩
  | _, _ => ⟨S6x4096x4608, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v11_4 : Ref sig .tc := ⟨.hbm, 29, rfl⟩
abbrev main_v11_5 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S1x1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x12288 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4608x12288 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4608x12288 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4608x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4608x12288 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4608x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4608x12288 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4608x12288 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4608x12288 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4608x96 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4608x12288 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4608x96 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.KernelRun.lean ====
module

public import proofs.«01_k».proof.Proof.Gen.Kernel.Frame
public import proofs.«01_k».proof.Proof.Gen.Kernel.Loops
public import Idealize.ShloMosaic.Adequacy
public import Idealize.ShloMosaic.Init
public import Idealize.ShloMosaic.Lib.Pipeline.ArrRel

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

abbrev UU (nD : Nat) (τ : Topo) : Type := UR sig nD τ
abbrev 𝒱₀ : Variants := Variants.none

local notation "𝕄" => MT nD τ sig Unit (Elt F) ℕ (UR sig nD τ) ℕ

/-! ## One trip of the row loop, and the body, saying only that every buffer is still held -/

section Run

variable (c : Dev nD) (i : grid0.Coords)
  (arg3 : Memref sig .tc .smem S2 .f32) (harg3 : arg3.IsWhole)
  (arg4 : Memref sig .tc .vmem S1024x768 .fp8e4m3) (harg4 : arg4.IsWhole)
  (arg5 : Memref sig .tc .vmem S1024x1 .f32) (harg5 : arg5.IsWhole)
  (arg6 : Memref sig .tc .vmem S1024x1536 .fp8e5m2) (harg6 : arg6.IsWhole)
  (arg7 : Memref sig .tc .vmem S1024x1 .f32) (harg7 : arg7.IsWhole)
  (arg8 : Memref sig .tc .vmem S768x1536 .bf16) (harg8 : arg8.IsWhole)
  (arg9 : Memref sig .tc .vmem S768x1536 .fp8e4m3) (harg9 : arg9.IsWhole)
  (arg10 : Memref sig .tc .vmem S768x96 .f32) (harg10 : arg10.IsWhole)
  (arg11 : Memref sig .tc .vmem S768x1536 .fp8e4m3) (harg11 : arg11.IsWhole)
  (arg12 : Memref sig .tc .vmem S768x96 .f32) (harg12 : arg12.IsWhole)
  (arg13 : Memref sig .tc .vmem S768x1536 .bf16) (harg13 : arg13.IsWhole)
  (arg14 : Memref sig .tc .vmem S768x1536 .f32) (harg14 : arg14.IsWhole)
  (arg15 : Memref sig .tc .vmem S768x1536 .fp8e4m3) (harg15 : arg15.IsWhole)
  (arg16 : Memref sig .tc .vmem S768x96 .f32) (harg16 : arg16.IsWhole)
  (arg17 : Memref sig .tc .vmem S768x1536 .fp8e4m3) (harg17 : arg17.IsWhole)
  (arg18 : Memref sig .tc .vmem S768x96 .f32) (harg18 : arg18.IsWhole)
  (arg19 : Memref sig .tc .vmem S768x1536 .f32) (harg19 : arg19.IsWhole)
  (arg1 : BitVec 32) (k0_h2 : k0_cond2 i = 1#1) (v28 v29 : Elt F .f32)

/-- The buffers a trip touches, each at some contents. -/
abbrev Held : sProp 𝕄 :=
  iprop((∃ f8, (arg8.view.loc (c : Thread nD τ) ↦[arg8.view.set]{fullShare} f8)) ∗ (∃ f9, (arg9.view.loc (c : Thread nD τ) ↦[arg9.view.set]{fullShare} f9)) ∗ (∃ f10, (arg10.view.loc (c : Thread nD τ) ↦[arg10.view.set]{fullShare} f10)) ∗ (∃ f11, (arg11.view.loc (c : Thread nD τ) ↦[arg11.view.set]{fullShare} f11)) ∗ (∃ f12, (arg12.view.loc (c : Thread nD τ) ↦[arg12.view.set]{fullShare} f12)) ∗ (∃ f13, (arg13.view.loc (c : Thread nD τ) ↦[arg13.view.set]{fullShare} f13)) ∗ (∃ f14, (arg14.view.loc (c : Thread nD τ) ↦[arg14.view.set]{fullShare} f14)) ∗ (∃ f15, (arg15.view.loc (c : Thread nD τ) ↦[arg15.view.set]{fullShare} f15)) ∗ (∃ f16, (arg16.view.loc (c : Thread nD τ) ↦[arg16.view.set]{fullShare} f16)) ∗ (∃ f17, (arg17.view.loc (c : Thread nD τ) ↦[arg17.view.set]{fullShare} f17)) ∗ (∃ f18, (arg18.view.loc (c : Thread nD τ) ↦[arg18.view.set]{fullShare} f18)) ∗ (∃ f19, (arg19.view.loc (c : Thread nD τ) ↦[arg19.view.set]{fullShare} f19)))

/-- A trip keeps every buffer it touches. -/
theorem trip (k : Fin k0_t1_loop.trips) :
    Held (F := F) c arg8 arg9 arg10 arg11 arg12 arg13 arg14 arg15 arg16 arg17 arg18 arg19
      ⊢ wp frame (wpE (defs₀ (F := F)) 𝒱₀ (c : Thread nD τ) none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 k0_h2 v28 v29 k ())
        (fun _ => Held (F := F) c arg8 arg9 arg10 arg11 arg12 arg13 arg14 arg15 arg16 arg17 arg18 arg19) := by
  unfold k0_t1_body
  iintro ⟨⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
  sl_exec
  sl_step
  sl_close

set_option warn.classDefReducibility false in
/-- The row loop's invariant: every buffer it touches is held. -/
@[sl_loop] def loopInv :
    LoopInvTy_k0_t1 (F := F) Unit ℕ (UU nD τ) ℕ 𝒱₀ c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 k0_h2 v28 v29 where
  inv _ _ := Held (F := F) c arg8 arg9 arg10 arg11 arg12 arg13 arg14 arg15 arg16 arg17 arg18 arg19
  step k _ := trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 k0_h2 v28 v29 k

/-- Every buffer the body is called with, each at some contents. -/
abbrev HeldAll : sProp 𝕄 :=
  iprop((∃ f3, (arg3.view.loc (c : Thread nD τ) ↦[arg3.view.set]{fullShare} f3)) ∗ (∃ f4, (arg4.view.loc (c : Thread nD τ) ↦[arg4.view.set]{fullShare} f4)) ∗ (∃ f5, (arg5.view.loc (c : Thread nD τ) ↦[arg5.view.set]{fullShare} f5)) ∗ (∃ f6, (arg6.view.loc (c : Thread nD τ) ↦[arg6.view.set]{fullShare} f6)) ∗ (∃ f7, (arg7.view.loc (c : Thread nD τ) ↦[arg7.view.set]{fullShare} f7)) ∗ (∃ f8, (arg8.view.loc (c : Thread nD τ) ↦[arg8.view.set]{fullShare} f8)) ∗ (∃ f9, (arg9.view.loc (c : Thread nD τ) ↦[arg9.view.set]{fullShare} f9)) ∗ (∃ f10, (arg10.view.loc (c : Thread nD τ) ↦[arg10.view.set]{fullShare} f10)) ∗ (∃ f11, (arg11.view.loc (c : Thread nD τ) ↦[arg11.view.set]{fullShare} f11)) ∗ (∃ f12, (arg12.view.loc (c : Thread nD τ) ↦[arg12.view.set]{fullShare} f12)) ∗ (∃ f13, (arg13.view.loc (c : Thread nD τ) ↦[arg13.view.set]{fullShare} f13)) ∗ (∃ f14, (arg14.view.loc (c : Thread nD τ) ↦[arg14.view.set]{fullShare} f14)) ∗ (∃ f15, (arg15.view.loc (c : Thread nD τ) ↦[arg15.view.set]{fullShare} f15)) ∗ (∃ f16, (arg16.view.loc (c : Thread nD τ) ↦[arg16.view.set]{fullShare} f16)) ∗ (∃ f17, (arg17.view.loc (c : Thread nD τ) ↦[arg17.view.set]{fullShare} f17)) ∗ (∃ f18, (arg18.view.loc (c : Thread nD τ) ↦[arg18.view.set]{fullShare} f18)) ∗ (∃ f19, (arg19.view.loc (c : Thread nD τ) ↦[arg19.view.set]{fullShare} f19)))

/-- The body keeps every buffer it is called with. -/
theorem body_run :
    HeldAll (F := F) c arg3 arg4 arg5 arg6 arg7 arg8 arg9 arg10 arg11 arg12 arg13 arg14 arg15 arg16 arg17 arg18 arg19
      ⊢ wp frame (wpE (defs₀ (F := F)) 𝒱₀ (c : Thread nD τ) none) Set.univ (cc0_wgrad_adam (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => HeldAll (F := F) c arg3 arg4 arg5 arg6 arg7 arg8 arg9 arg10 arg11 arg12 arg13 arg14 arg15 arg16 arg17 arg18 arg19) := by
  simp only [cc0_wgrad_adam_eq_skeleton]; unfold cc0_wgrad_adam_skel
  by_cases h1 : Scalar.cmpi .ne (Scalar.extui (Scalar.cmpi .eq (BitVec.ofNat 32 (i 2).val) 0#32) : BitVec 32) 0#32 = 1#1 <;>
  by_cases h2 : k0_cond2 i = 1#1
  all_goals
    iintro ⟨⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
    sl_exec
    sl_step
    sl_close

end Run

/-! ## The pipeline: nothing is said of what the body leaves in a staging buffer -/

variable (m : (ℓ : Loc nD τ sig) → Buf (Elt F) ℓ) (ρ : Dev nD → PrngReg)

/-- The proof data of the frame: the arrays as the region finds them, every staging content allowed. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the body is called with at point `t`. -/
def bodyPre (c : Dev nD) (t : Fin cfg0.N) (Y : (w : Fin 16) → (cfg0.win w).block.Idx → Elt F (cfg0.win w).elt) : sProp 𝕄 :=
  iprop((rdats m c).Φ t.castSucc ∗ (rdats m c).owesAt () t.castSucc
    ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13) ∗ owns (c : Thread nD τ) (st0_14 t) fullShare (Y 14) ∗ owns (c : Thread nD τ) (st0_15 t) fullShare (Y 15))

/-- What it leaves. -/
def bodyPost (c : Dev nD) (t : Fin cfg0.N) (Y : (w : Fin 16) → (cfg0.win w).block.Idx → Elt F (cfg0.win w).elt) : sProp 𝕄 :=
  iprop((rdats m c).Φ t.succ ∗ (rdats m c).owesAt () t.succ
    ∗ (∃ X, ⌜(rdats m c).after 0 t (Y 0) X⌝ ∗ owns (c : Thread nD τ) (st0_0 t) fullShare X) ∗ (∃ X, ⌜(rdats m c).after 1 t (Y 1) X⌝ ∗ owns (c : Thread nD τ) (st0_1 t) fullShare X) ∗ (∃ X, ⌜(rdats m c).after 2 t (Y 2) X⌝ ∗ owns (c : Thread nD τ) (st0_2 t) fullShare X) ∗ (∃ X, ⌜(rdats m c).after 3 t (Y 3) X⌝ ∗ owns (c : Thread nD τ) (st0_3 t) fullShare X) ∗ (∃ X, ⌜(rdats m c).after 4 t (Y 4) X⌝ ∗ owns (c : Thread nD τ) (st0_4 t) fullShare X) ∗ (∃ X, ⌜(rdats m c).after 5 t (Y 5) X⌝ ∗ owns (c : Thread nD τ) (st0_5 t) fullShare X) ∗ (∃ X, ⌜(rdats m c).after 6 t (Y 6) X⌝ ∗ owns (c : Thread nD τ) (st0_6 t) fullShare X) ∗ (∃ X, ⌜(rdats m c).after 7 t (Y 7) X⌝ ∗ owns (c : Thread nD τ) (st0_7 t) fullShare X) ∗ (∃ X, ⌜(rdats m c).after 8 t (Y 8) X⌝ ∗ owns (c : Thread nD τ) (st0_8 t) fullShare X) ∗ (∃ X, ⌜(rdats m c).after 9 t (Y 9) X⌝ ∗ owns (c : Thread nD τ) (st0_9 t) fullShare X) ∗ (∃ X, ⌜(rdats m c).after 10 t (Y 10) X⌝ ∗ owns (c : Thread nD τ) (st0_10 t) fullShare X) ∗ (∃ X, ⌜(rdats m c).after 11 t (Y 11) X⌝ ∗ owns (c : Thread nD τ) (st0_11 t) fullShare X) ∗ (∃ X, ⌜(rdats m c).after 12 t (Y 12) X⌝ ∗ owns (c : Thread nD τ) (st0_12 t) fullShare X) ∗ (∃ X, ⌜(rdats m c).after 13 t (Y 13) X⌝ ∗ owns (c : Thread nD τ) (st0_13 t) fullShare X) ∗ (∃ X, ⌜(rdats m c).after 14 t (Y 14) X⌝ ∗ owns (c : Thread nD τ) (st0_14 t) fullShare X) ∗ (∃ X, ⌜(rdats m c).after 15 t (Y 15) X⌝ ∗ owns (c : Thread nD τ) (st0_15 t) fullShare X))

theorem scratch_eq (c : Dev nD) (f : Buf (Elt F) ((Memref.whole cc0_scratch0).view.loc (c : Thread nD τ))) :
    ((Memref.whole cc0_scratch0).view.loc (c : Thread nD τ) ↦[(Memref.whole cc0_scratch0).view.set]{fullShare} f : sProp 𝕄)
      = iprop((((c : Thread nD τ).loc cc0_scratch0) ↦{fullShare} f)) := by
  rw [show (Memref.whole cc0_scratch0).view.set = Finset.univ from View.set_whole _]

/-- The body at a point, from what the pipeline hands it. -/
theorem sound_body (c : Dev nD) (t : Fin cfg0.N) (Y : (w : Fin 16) → (cfg0.win w).block.Idx → Elt F (cfg0.win w).elt) :
    bodyPre m c t Y ⊢ wp frame (wpE (defs₀ (F := F)) 𝒱₀ (c : Thread nD τ) none) Set.univ (bodyAt0 t) (fun _ => bodyPost m c t Y) := by
  unfold bodyPre bodyPost bodyAt0
  rw [show (rdats m c).Φ t.castSucc = Pipeline.ΦA spec0 c from rfl, show (rdats m c).Φ t.succ = Pipeline.ΦA spec0 c from rfl,
    show (rdats m c).owesAt () t.succ = (rdats m c).owesAt () t.castSucc from rfl]
  unfold Pipeline.ΦA
  rw [scopedRest0_eq]
  unfold owns
  iintro ⟨⟨⟨%fs, Hs⟩, Hr⟩, Ho, ⟨%f0, -, H0⟩, ⟨%f1, -, H1⟩, ⟨%f2, -, H2⟩, ⟨%f3, -, H3⟩, ⟨%f4, -, H4⟩, ⟨%f5, -, H5⟩, ⟨%f6, -, H6⟩, ⟨%f7, -, H7⟩, ⟨%f8, -, H8⟩, ⟨%f9, -, H9⟩, ⟨%f10, -, H10⟩, ⟨%f11, -, H11⟩, ⟨%f12, -, H12⟩, ⟨%f13, -, H13⟩, ⟨%f14, -, H14⟩, ⟨%f15, -, H15⟩⟩
  iapply (wp_wand_r Idealize.ShloMosaic.frame (wpE (defs₀ (F := F)) 𝒱₀ (c : Thread nD τ) none) Set.univ)
  isplitl [H0 H1 H2 H3 H4 H5 H6 H7 H8 H9 H10 H11 H12 H13 H14 H15 Hs]
  · iapply (body_run c (grid0.coords t) _ _ _ _ _ _ _ _ _ _ _ _ _ _ _ _ _ _ _ _ _ _ _ _ _ _ _ _ _ _ _ _ _ _)
    isplitl [H0]; · iexists f0; iexact H0
    isplitl [H1]; · iexists f1; iexact H1
    isplitl [H2]; · iexists f2; iexact H2
    isplitl [H3]; · iexists f3; iexact H3
    isplitl [H4]; · iexists f4; iexact H4
    isplitl [H5]; · iexists f5; iexact H5
    isplitl [H6]; · iexists f6; iexact H6
    isplitl [H7]; · iexists f7; iexact H7
    isplitl [H8]; · iexists f8; iexact H8
    isplitl [H9]; · iexists f9; iexact H9
    isplitl [H10]; · iexists f10; iexact H10
    isplitl [H11]; · iexists f11; iexact H11
    isplitl [H12]; · iexists f12; iexact H12
    isplitl [H13]; · iexists f13; iexact H13
    isplitl [H14]; · iexists f14; iexact H14
    isplitl [H15]; · iexists f15; iexact H15
    iexists fs; rw [scratch_eq]; iexact Hs
  · iintro %_ ⟨⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, ⟨%g9, H9⟩, ⟨%g10, H10⟩, ⟨%g11, H11⟩, ⟨%g12, H12⟩, ⟨%g13, H13⟩, ⟨%g14, H14⟩, ⟨%g15, H15⟩, ⟨%gs, Hs⟩⟩
    isplitl [Hs Hr]
    · isplitl [Hs]
      · iexists gs; iapply (Entails.of_eq (scratch_eq c gs)); iexact Hs
      iexact Hr
    isplitl [Ho]; · iexact Ho
    isplitl [H0]
    · iexists (st0_0 t).view.read (Elt F) g0; isplitr; · ipureintro; trivial
      iexists g0; isplitr; · ipureintro; rfl
      iexact H0
    isplitl [H1]
    · iexists (st0_1 t).view.read (Elt F) g1; isplitr; · ipureintro; trivial
      iexists g1; isplitr; · ipureintro; rfl
      iexact H1
    isplitl [H2]
    · iexists (st0_2 t).view.read (Elt F) g2; isplitr; · ipureintro; trivial
      iexists g2; isplitr; · ipureintro; rfl
      iexact H2
    isplitl [H3]
    · iexists (st0_3 t).view.read (Elt F) g3; isplitr; · ipureintro; trivial
      iexists g3; isplitr; · ipureintro; rfl
      iexact H3
    isplitl [H4]
    · iexists (st0_4 t).view.read (Elt F) g4; isplitr; · ipureintro; trivial
      iexists g4; isplitr; · ipureintro; rfl
      iexact H4
    isplitl [H5]
    · iexists (st0_5 t).view.read (Elt F) g5; isplitr; · ipureintro; trivial
      iexists g5; isplitr; · ipureintro; rfl
      iexact H5
    isplitl [H6]
    · iexists (st0_6 t).view.read (Elt F) g6; isplitr; · ipureintro; trivial
      iexists g6; isplitr; · ipureintro; rfl
      iexact H6
    isplitl [H7]
    · iexists (st0_7 t).view.read (Elt F) g7; isplitr; · ipureintro; trivial
      iexists g7; isplitr; · ipureintro; rfl
      iexact H7
    isplitl [H8]
    · iexists (st0_8 t).view.read (Elt F) g8; isplitr; · ipureintro; trivial
      iexists g8; isplitr; · ipureintro; rfl
      iexact H8
    isplitl [H9]
    · iexists (st0_9 t).view.read (Elt F) g9; isplitr; · ipureintro; trivial
      iexists g9; isplitr; · ipureintro; rfl
      iexact H9
    isplitl [H10]
    · iexists (st0_10 t).view.read (Elt F) g10; isplitr; · ipureintro; trivial
      iexists g10; isplitr; · ipureintro; rfl
      iexact H10
    isplitl [H11]
    · iexists (st0_11 t).view.read (Elt F) g11; isplitr; · ipureintro; trivial
      iexists g11; isplitr; · ipureintro; rfl
      iexact H11
    isplitl [H12]
    · iexists (st0_12 t).view.read (Elt F) g12; isplitr; · ipureintro; trivial
      iexists g12; isplitr; · ipureintro; rfl
      iexact H12
    isplitl [H13]
    · iexists (st0_13 t).view.read (Elt F) g13; isplitr; · ipureintro; trivial
      iexists g13; isplitr; · ipureintro; rfl
      iexact H13
    isplitl [H14]
    · iexists (st0_14 t).view.read (Elt F) g14; isplitr; · ipureintro; trivial
      iexists g14; isplitr; · ipureintro; rfl
      iexact H14
    iexists (st0_15 t).view.read (Elt F) g15; isplitr; · ipureintro; trivial
    iexists g15; isplitr; · ipureintro; rfl
    iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : (rdats (F := F) m c).BodyObligation (defs₀ (F := F)) 𝒱₀ () Set.univ := fun t Y _ => by
  rw [bigSep_W0, bigSep_W0, defs₀_row]
  exact triple_restated (sound_body m c t Y) rfl .rfl fun _ => .rfl

/-! ## The run and the frame -/

set_option backward.isDefEq.respectTransparency.types false in
set_option maxHeartbeats 800000 in
/-- Every execution ends, the arrays as the proof data allow, every counter at zero. -/
theorem run_main : θ_run defs (onTc (τ := τ) (main (F := F))) (s₀ m ρ)
    (fun r => Pipeline.RDat.FramePost cfg0 (rdats m) (V m) r ∧ r.2.sem = fun _ => 0) :=
  Pipeline.RDat.θ_run_frame (Q' := fun r => Pipeline.RDat.FramePost cfg0 (rdats m) (V m) r ∧ r.2.sem = fun _ => 0)
    cfgs (0 : Fin 1) launch0 defs₀ 𝒱₀ (rdats m) m ρ main
    (hbody := body_obligation m) (hshare := fun c w => by unfold Pipeline.RDat.share; split <;> rfl)
    (howed := fun _ _ => rfl) (V := V m) (hmain := hmain m 𝒱₀) (hA := fun _ _ => rfl) (hΦ := fun _ _ => rfl)
    (hQ' := fun _ h => h)

/-- The frame claim's statement: the arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r hr => ⟨fun c => by
    have h := hr.1
    refine ⟨?_, ?_, ?_, ?_, ?_, ?_, ?_, ?_, ?_, ?_⟩
    · exact ((h c).2 main_arg0 (Pipeline.mem_restRefs_of main_arg0 (by decide) (by decide))).trans (V_main_arg0 m c)
    · exact ((h c).2 main_arg1 (Pipeline.mem_restRefs_of main_arg1 (by decide) (by decide))).trans (V_main_arg1 m c)
    · exact ((h c).2 main_arg2 (Pipeline.mem_restRefs_of main_arg2 (by decide) (by decide))).trans (V_main_arg2 m c)
    · exact ((h c).2 main_arg3 (Pipeline.mem_restRefs_of main_arg3 (by decide) (by decide))).trans (V_main_arg3 m c)
    · exact (Pipeline.RDat.FramePost.arr_in h c 5 rfl).trans (V_main_arg4 m c)
    · exact (Pipeline.RDat.FramePost.arr_in h c 6 rfl).trans (V_main_arg5 m c)
    · exact (Pipeline.RDat.FramePost.arr_in h c 7 rfl).trans (V_main_arg6 m c)
    · exact (Pipeline.RDat.FramePost.arr_in h c 8 rfl).trans (V_main_arg7 m c)
    · exact (Pipeline.RDat.FramePost.arr_in h c 9 rfl).trans (V_main_arg8 m c)
    · exact ((h c).2 main_arg9 (Pipeline.mem_restRefs_of main_arg9 (by decide) (by decide))).trans (V_main_arg9 m c), hr.2⟩) (run_main m ρ)

end Cert.Proof.Kernel

end
-- ==== Proof.Spec.lean ====
module

public import proofs.«01_k».proof.Proof.Gen.KernelIdeal.Frame
public import proofs.«01_k».proof.Proof.Gen.KernelIdeal.Loops

@[expose] public section

noncomputable section

/-! What one row group and one 128-column block of the epilogue computes, as vectors: the twelve blocks of the unrolled body are the same
    terms at `q = 0, …, 11`. -/

namespace Cert.Proof.KernelIdeal

open Cert.KernelIdeal Cert.KernelIdeal.Gen
open Idealize.ShloMosaic Idealize.ShloMosaic.TcCoe

variable {F : FTy → Type} [FloatOps F]

/-- The lane of block `q`'s scale among a row's 96. -/
def here (arg1 q : BitVec 32) : IVec S32x96 1 :=
  cmpi .eq (iota .tc S32x96 32 [1] iota_S32x96_d1_w32) (broadcast S32x96 (Scalar.addi (Scalar.muli arg1 12#32) q))

/-- The scale of block `q`, picked out of each row by a masked sum. -/
def laneV (arg1 q : BitVec 32) (sc : Vec F S32x96 .f32) : FVec F S32x1 .f32 :=
  shapeCast S32x1 (multiReduction .add [1] S32
    (select (here arg1 q) sc (broadcast S32x96 (Scalar.ofBits (F := F) .f32 0x00000000#32) : FVec F S32x96 .f32) : FVec F S32x96 .f32) 0x00000000#32 reduces_S32x96_S32 (.inl rfl) rfl) shapeCasts_S32_S32x1

/-- A dequantised state block. -/
def deqV (arg1 q : BitVec 32) (sc : Vec F S32x96 .f32) (x : Vec F S32x128 .fp8e4m3) : FVec F S32x128 .f32 :=
  mulf (extf .f32 x bitsLt_fp8e4m3_f32 : FVec F S32x128 .f32) (broadcastTo S32x128 (laneV arg1 q sc) broadcasts_S32x1_S32x128)

/-- The new first moment. -/
def mV (arg1 q : BitVec 32) (msc : Vec F S32x96 .f32) (g : Vec F S32x128 .f32) (mc : Vec F S32x128 .fp8e4m3) : FVec F S32x128 .f32 :=
  addf (mulf (broadcast S32x128 (Scalar.ofBits (F := F) .f32 0x3F666666#32)) (deqV arg1 q msc mc))
    (mulf (broadcast S32x128 (Scalar.ofBits (F := F) .f32 0x3DCCCCCD#32)) g)

/-- The new second moment. -/
def vV (arg1 q : BitVec 32) (ssc : Vec F S32x96 .f32) (g : Vec F S32x128 .f32) (sc : Vec F S32x128 .fp8e4m3) : FVec F S32x128 .f32 :=
  addf (mulf (broadcast S32x128 (Scalar.ofBits (F := F) .f32 0x3F7FBE77#32)) (mulf (deqV arg1 q ssc sc) (deqV arg1 q ssc sc)))
    (mulf (mulf (broadcast S32x128 (Scalar.ofBits (F := F) .f32 0x3A83126F#32)) g) g)

/-- The update. -/
def updV (b1 b2 : Elt F .f32) (mn vn : FVec F S32x128 .f32) : FVec F S32x128 .f32 :=
  divf (mulf (broadcast S32x128 (Scalar.ofBits (F := F) .f32 0xBA83126F#32)) (divf mn (broadcast S32x128 b1)))
    (addf (sqrt (divf vn (broadcast S32x128 b2))) (broadcast S32x128 (Scalar.ofBits (F := F) .f32 0x322BCC77#32)))

/-- The new weights. -/
def wV (w : Vec F S32x128 .bf16) (u : FVec F S32x128 .f32) : FVec F S32x128 .bf16 :=
  truncf .bf16 (addf (extf .f32 w bitsLt_bf16_f32 : FVec F S32x128 .f32) u) bitsLt_bf16_f32

/-- How many of the 256 words `n <<< 23` read, as floats, at most the row's largest magnitude over 448. -/
def countV (v : FVec F S32x128 .f32) : FVec F S32x1 .f32 :=
  shapeCast S32x1 (multiReduction .add [1] S32
    (select (cmpf .ole
        (broadcastTo S32x256 (bitcastToFloat (F := F) .f32 (shli (iota .tc S1x256 32 [1] iota_S1x256_d1_w32) (broadcast S1x256 23#32))) broadcasts_S1x256_S32x256)
        (broadcastTo S32x256 (mulf (shapeCast S32x1 (multiReduction .maximumf [1] S32 (absf v) 0xFF800000#32 reduces_S32x128_S32 (.inl rfl) rfl) shapeCasts_S32_S32x1)
          (broadcast S32x1 (Scalar.ofBits (F := F) .f32 0x3B124925#32))) broadcasts_S32x1_S32x256))
      (broadcast S32x256 (Scalar.ofBits (F := F) .f32 0x3F800000#32)) (broadcast S32x256 (Scalar.ofBits (F := F) .f32 0x00000000#32)) : FVec F S32x256 .f32)
    0x00000000#32 reduces_S32x256_S32 (.inl rfl) rfl) shapeCasts_S32_S32x1

/-- The biased exponent field. -/
def fieldV (v : FVec F S32x128 .f32) : IVec S32x1 32 := subi (fptosi 32 (countV v)) (broadcast S32x1 1#32)

/-- The exponent `e` of the block's scale `2^e`. -/
def expV (v : FVec F S32x128 .f32) : IVec S32x1 32 :=
  select (cmpi .eq (fieldV v) (broadcast S32x1 0#32)) (broadcast S32x1 0#32) (subi (fieldV v) (broadcast S32x1 126#32))

/-- The block's scale. -/
def scaleV (v : FVec F S32x128 .f32) : FVec F S32x1 .f32 :=
  bitcastToFloat .f32 (shli (addi (expV v) (broadcast S32x1 127#32)) (broadcast S32x1 23#32))

/-- The factor the block is quantised by. -/
def invV (v : FVec F S32x128 .f32) : FVec F S32x1 .f32 :=
  bitcastToFloat .f32 (shli (subi (broadcast S32x1 127#32) (expV v)) (broadcast S32x1 23#32))

/-- The block's codes. -/
def codesV (v : FVec F S32x128 .f32) : FVec F S32x128 .fp8e4m3 :=
  truncf .fp8e4m3 (minimumf (broadcast S32x128 (Scalar.ofBits (F := F) .f32 0x43E00000#32))
    (maximumf (broadcast S32x128 (Scalar.ofBits (F := F) .f32 0xC3E00000#32)) (mulf v (broadcastTo S32x128 (invV v) broadcasts_S32x1_S32x128)))) bitsLt_fp8e4m3_f32

/-- A row group of scales, with block `q`'s lane replaced. -/
def rowV (arg1 q : BitVec 32) (sc : FVec F S32x1 .f32) (row : FVec F S32x96 .f32) : FVec F S32x96 .f32 :=
  select (here arg1 q) (broadcastTo S32x96 (shapeCast S32x1 sc shapeCasts_S32x1_S32x1) broadcasts_S32x1_S32x96) row

end Cert.Proof.KernelIdeal

end
-- ==== Proof.Trip.lean ====
module

public import proofs.«01_k».proof.Proof.Gen.KernelIdeal.Frame
public import proofs.«01_k».proof.Proof.Gen.KernelIdeal.Loops
public import proofs.«01_k».proof.Proof.Spec
public import Idealize.ShloMosaic.Adequacy
public import Idealize.ShloMosaic.Init
public import Idealize.ShloMosaic.Lib.Pipeline.ArrRel

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

/-! One trip of the epilogue's loop (32 rows): what it stores, as twelve blocks of the same vector terms. -/

abbrev UU (nD : Nat) (τ : Topo) : Type := UR sig nD τ
abbrev 𝒱₀ : Variants := Variants.none

local notation "𝕄" => MT nD τ sig Unit (Elt F) ℕ (UR sig nD τ) ℕ

section Trip

variable (c : Dev nD) (i : grid0.Coords)
  (arg3 : Memref sig .tc .smem S2 .f32) (harg3 : arg3.IsWhole)
  (arg4 : Memref sig .tc .vmem S1024x768 .fp8e4m3) (harg4 : arg4.IsWhole)
  (arg5 : Memref sig .tc .vmem S1024x1 .f32) (harg5 : arg5.IsWhole)
  (arg6 : Memref sig .tc .vmem S1024x1536 .fp8e5m2) (harg6 : arg6.IsWhole)
  (arg7 : Memref sig .tc .vmem S1024x1 .f32) (harg7 : arg7.IsWhole)
  (arg8 : Memref sig .tc .vmem S768x1536 .bf16) (harg8 : arg8.IsWhole)
  (arg9 : Memref sig .tc .vmem S768x1536 .fp8e4m3) (harg9 : arg9.IsWhole)
  (arg10 : Memref sig .tc .vmem S768x96 .f32) (harg10 : arg10.IsWhole)
  (arg11 : Memref sig .tc .vmem S768x1536 .fp8e4m3) (harg11 : arg11.IsWhole)
  (arg12 : Memref sig .tc .vmem S768x96 .f32) (harg12 : arg12.IsWhole)
  (arg13 : Memref sig .tc .vmem S768x1536 .bf16) (harg13 : arg13.IsWhole)
  (arg14 : Memref sig .tc .vmem S768x1536 .f32) (harg14 : arg14.IsWhole)
  (arg15 : Memref sig .tc .vmem S768x1536 .fp8e4m3) (harg15 : arg15.IsWhole)
  (arg16 : Memref sig .tc .vmem S768x96 .f32) (harg16 : arg16.IsWhole)
  (arg17 : Memref sig .tc .vmem S768x1536 .fp8e4m3) (harg17 : arg17.IsWhole)
  (arg18 : Memref sig .tc .vmem S768x96 .f32) (harg18 : arg18.IsWhole)
  (arg19 : Memref sig .tc .vmem S768x1536 .f32) (harg19 : arg19.IsWhole)
  (arg1 : BitVec 32) (k0_h2 : k0_cond2 i = 1#1) (v28 v29 : Elt F .f32) (k : Fin k0_t1_loop.trips)
  (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ)))

/-- The new first moment of the block at `off`. -/
def mAt (q : BitVec 32) (off : Fin 2 → ℕ) (inb : ∀ a, off a + S32x128.size a ≤ S768x1536.size a) : FVec F S32x128 .f32 :=
  mV arg1 q (arg10.view.readAt (Elt F) (Rect.unit (s := S768x96) (k0_off1 k) S32x96.size (k0_off1_inb i k k0_h2)).toLoadRect f10) (arg19.view.readAt (Elt F) (Rect.unit (s := S768x1536) off S32x128.size inb).toLoadRect f19) (arg9.view.readAt (Elt F) (Rect.unit (s := S768x1536) off S32x128.size inb).toLoadRect f9)

/-- The new second moment of the block at `off`. -/
def vAt (q : BitVec 32) (off : Fin 2 → ℕ) (inb : ∀ a, off a + S32x128.size a ≤ S768x1536.size a) : FVec F S32x128 .f32 :=
  vV arg1 q (arg12.view.readAt (Elt F) (Rect.unit (s := S768x96) (k0_off1 k) S32x96.size (k0_off1_inb i k k0_h2)).toLoadRect f12) (arg19.view.readAt (Elt F) (Rect.unit (s := S768x1536) off S32x128.size inb).toLoadRect f19) (arg11.view.readAt (Elt F) (Rect.unit (s := S768x1536) off S32x128.size inb).toLoadRect f11)

/-- The update of the block at `off`. -/
def updAt (q : BitVec 32) (off : Fin 2 → ℕ) (inb : ∀ a, off a + S32x128.size a ≤ S768x1536.size a) : FVec F S32x128 .f32 :=
  updV v28 v29 (mAt c i arg9 arg10 arg19 arg1 k0_h2 k f9 f10 f19 q off inb) (vAt c i arg11 arg12 arg19 arg1 k0_h2 k f11 f12 f19 q off inb)

/-- The new weights of the block at `off`. -/
def wAt (q : BitVec 32) (off : Fin 2 → ℕ) (inb : ∀ a, off a + S32x128.size a ≤ S768x1536.size a) : FVec F S32x128 .bf16 :=
  wV (arg8.view.readAt (Elt F) (Rect.unit (s := S768x1536) off S32x128.size inb).toLoadRect f8) (updAt c i arg9 arg10 arg11 arg12 arg19 arg1 k0_h2 v28 v29 k f9 f10 f11 f12 f19 q off inb)

/-- The stores of a trip to the weights, -/
def st13 : List (View.Piece (Elt F) S768x1536 .bf16) :=
  [⟨Rect.unit (s := S768x1536) (k0_off13 k) S32x128.size (k0_off13_inb i k k0_h2), wAt c i arg8 arg9 arg10 arg11 arg12 arg19 arg1 k0_h2 v28 v29 k f8 f9 f10 f11 f12 f19 11#32 (k0_off13 k) (k0_off13_inb i k k0_h2)⟩,
   ⟨Rect.unit (s := S768x1536) (k0_off12 k) S32x128.size (k0_off12_inb i k k0_h2), wAt c i arg8 arg9 arg10 arg11 arg12 arg19 arg1 k0_h2 v28 v29 k f8 f9 f10 f11 f12 f19 10#32 (k0_off12 k) (k0_off12_inb i k k0_h2)⟩,
   ⟨Rect.unit (s := S768x1536) (k0_off11 k) S32x128.size (k0_off11_inb i k k0_h2), wAt c i arg8 arg9 arg10 arg11 arg12 arg19 arg1 k0_h2 v28 v29 k f8 f9 f10 f11 f12 f19 9#32 (k0_off11 k) (k0_off11_inb i k k0_h2)⟩,
   ⟨Rect.unit (s := S768x1536) (k0_off10 k) S32x128.size (k0_off10_inb i k k0_h2), wAt c i arg8 arg9 arg10 arg11 arg12 arg19 arg1 k0_h2 v28 v29 k f8 f9 f10 f11 f12 f19 8#32 (k0_off10 k) (k0_off10_inb i k k0_h2)⟩,
   ⟨Rect.unit (s := S768x1536) (k0_off9 k) S32x128.size (k0_off9_inb i k k0_h2), wAt c i arg8 arg9 arg10 arg11 arg12 arg19 arg1 k0_h2 v28 v29 k f8 f9 f10 f11 f12 f19 7#32 (k0_off9 k) (k0_off9_inb i k k0_h2)⟩,
   ⟨Rect.unit (s := S768x1536) (k0_off8 k) S32x128.size (k0_off8_inb i k k0_h2), wAt c i arg8 arg9 arg10 arg11 arg12 arg19 arg1 k0_h2 v28 v29 k f8 f9 f10 f11 f12 f19 6#32 (k0_off8 k) (k0_off8_inb i k k0_h2)⟩,
   ⟨Rect.unit (s := S768x1536) (k0_off7 k) S32x128.size (k0_off7_inb i k k0_h2), wAt c i arg8 arg9 arg10 arg11 arg12 arg19 arg1 k0_h2 v28 v29 k f8 f9 f10 f11 f12 f19 5#32 (k0_off7 k) (k0_off7_inb i k k0_h2)⟩,
   ⟨Rect.unit (s := S768x1536) (k0_off6 k) S32x128.size (k0_off6_inb i k k0_h2), wAt c i arg8 arg9 arg10 arg11 arg12 arg19 arg1 k0_h2 v28 v29 k f8 f9 f10 f11 f12 f19 4#32 (k0_off6 k) (k0_off6_inb i k k0_h2)⟩,
   ⟨Rect.unit (s := S768x1536) (k0_off5 k) S32x128.size (k0_off5_inb i k k0_h2), wAt c i arg8 arg9 arg10 arg11 arg12 arg19 arg1 k0_h2 v28 v29 k f8 f9 f10 f11 f12 f19 3#32 (k0_off5 k) (k0_off5_inb i k k0_h2)⟩,
   ⟨Rect.unit (s := S768x1536) (k0_off4 k) S32x128.size (k0_off4_inb i k k0_h2), wAt c i arg8 arg9 arg10 arg11 arg12 arg19 arg1 k0_h2 v28 v29 k f8 f9 f10 f11 f12 f19 2#32 (k0_off4 k) (k0_off4_inb i k k0_h2)⟩,
   ⟨Rect.unit (s := S768x1536) (k0_off3 k) S32x128.size (k0_off3_inb i k k0_h2), wAt c i arg8 arg9 arg10 arg11 arg12 arg19 arg1 k0_h2 v28 v29 k f8 f9 f10 f11 f12 f19 1#32 (k0_off3 k) (k0_off3_inb i k k0_h2)⟩,
   ⟨Rect.unit (s := S768x1536) (k0_off2 k) S32x128.size (k0_off2_inb i k k0_h2), wAt c i arg8 arg9 arg10 arg11 arg12 arg19 arg1 k0_h2 v28 v29 k f8 f9 f10 f11 f12 f19 0#32 (k0_off2 k) (k0_off2_inb i k k0_h2)⟩]

/-- to the updates, -/
def st14 : List (View.Piece (Elt F) S768x1536 .f32) :=
  [⟨Rect.unit (s := S768x1536) (k0_off13 k) S32x128.size (k0_off13_inb i k k0_h2), updAt c i arg9 arg10 arg11 arg12 arg19 arg1 k0_h2 v28 v29 k f9 f10 f11 f12 f19 11#32 (k0_off13 k) (k0_off13_inb i k k0_h2)⟩,
   ⟨Rect.unit (s := S768x1536) (k0_off12 k) S32x128.size (k0_off12_inb i k k0_h2), updAt c i arg9 arg10 arg11 arg12 arg19 arg1 k0_h2 v28 v29 k f9 f10 f11 f12 f19 10#32 (k0_off12 k) (k0_off12_inb i k k0_h2)⟩,
   ⟨Rect.unit (s := S768x1536) (k0_off11 k) S32x128.size (k0_off11_inb i k k0_h2), updAt c i arg9 arg10 arg11 arg12 arg19 arg1 k0_h2 v28 v29 k f9 f10 f11 f12 f19 9#32 (k0_off11 k) (k0_off11_inb i k k0_h2)⟩,
   ⟨Rect.unit (s := S768x1536) (k0_off10 k) S32x128.size (k0_off10_inb i k k0_h2), updAt c i arg9 arg10 arg11 arg12 arg19 arg1 k0_h2 v28 v29 k f9 f10 f11 f12 f19 8#32 (k0_off10 k) (k0_off10_inb i k k0_h2)⟩,
   ⟨Rect.unit (s := S768x1536) (k0_off9 k) S32x128.size (k0_off9_inb i k k0_h2), updAt c i arg9 arg10 arg11 arg12 arg19 arg1 k0_h2 v28 v29 k f9 f10 f11 f12 f19 7#32 (k0_off9 k) (k0_off9_inb i k k0_h2)⟩,
   ⟨Rect.unit (s := S768x1536) (k0_off8 k) S32x128.size (k0_off8_inb i k k0_h2), updAt c i arg9 arg10 arg11 arg12 arg19 arg1 k0_h2 v28 v29 k f9 f10 f11 f12 f19 6#32 (k0_off8 k) (k0_off8_inb i k k0_h2)⟩,
   ⟨Rect.unit (s := S768x1536) (k0_off7 k) S32x128.size (k0_off7_inb i k k0_h2), updAt c i arg9 arg10 arg11 arg12 arg19 arg1 k0_h2 v28 v29 k f9 f10 f11 f12 f19 5#32 (k0_off7 k) (k0_off7_inb i k k0_h2)⟩,
   ⟨Rect.unit (s := S768x1536) (k0_off6 k) S32x128.size (k0_off6_inb i k k0_h2), updAt c i arg9 arg10 arg11 arg12 arg19 arg1 k0_h2 v28 v29 k f9 f10 f11 f12 f19 4#32 (k0_off6 k) (k0_off6_inb i k k0_h2)⟩,
   ⟨Rect.unit (s := S768x1536) (k0_off5 k) S32x128.size (k0_off5_inb i k k0_h2), updAt c i arg9 arg10 arg11 arg12 arg19 arg1 k0_h2 v28 v29 k f9 f10 f11 f12 f19 3#32 (k0_off5 k) (k0_off5_inb i k k0_h2)⟩,
   ⟨Rect.unit (s := S768x1536) (k0_off4 k) S32x128.size (k0_off4_inb i k k0_h2), updAt c i arg9 arg10 arg11 arg12 arg19 arg1 k0_h2 v28 v29 k f9 f10 f11 f12 f19 2#32 (k0_off4 k) (k0_off4_inb i k k0_h2)⟩,
   ⟨Rect.unit (s := S768x1536) (k0_off3 k) S32x128.size (k0_off3_inb i k k0_h2), updAt c i arg9 arg10 arg11 arg12 arg19 arg1 k0_h2 v28 v29 k f9 f10 f11 f12 f19 1#32 (k0_off3 k) (k0_off3_inb i k k0_h2)⟩,
   ⟨Rect.unit (s := S768x1536) (k0_off2 k) S32x128.size (k0_off2_inb i k k0_h2), updAt c i arg9 arg10 arg11 arg12 arg19 arg1 k0_h2 v28 v29 k f9 f10 f11 f12 f19 0#32 (k0_off2 k) (k0_off2_inb i k k0_h2)⟩]

/-- to the first moment's codes, -/
def st15 : List (View.Piece (Elt F) S768x1536 .fp8e4m3) :=
  [⟨Rect.unit (s := S768x1536) (k0_off13 k) S32x128.size (k0_off13_inb i k k0_h2), codesV (mAt c i arg9 arg10 arg19 arg1 k0_h2 k f9 f10 f19 11#32 (k0_off13 k) (k0_off13_inb i k k0_h2))⟩,
   ⟨Rect.unit (s := S768x1536) (k0_off12 k) S32x128.size (k0_off12_inb i k k0_h2), codesV (mAt c i arg9 arg10 arg19 arg1 k0_h2 k f9 f10 f19 10#32 (k0_off12 k) (k0_off12_inb i k k0_h2))⟩,
   ⟨Rect.unit (s := S768x1536) (k0_off11 k) S32x128.size (k0_off11_inb i k k0_h2), codesV (mAt c i arg9 arg10 arg19 arg1 k0_h2 k f9 f10 f19 9#32 (k0_off11 k) (k0_off11_inb i k k0_h2))⟩,
   ⟨Rect.unit (s := S768x1536) (k0_off10 k) S32x128.size (k0_off10_inb i k k0_h2), codesV (mAt c i arg9 arg10 arg19 arg1 k0_h2 k f9 f10 f19 8#32 (k0_off10 k) (k0_off10_inb i k k0_h2))⟩,
   ⟨Rect.unit (s := S768x1536) (k0_off9 k) S32x128.size (k0_off9_inb i k k0_h2), codesV (mAt c i arg9 arg10 arg19 arg1 k0_h2 k f9 f10 f19 7#32 (k0_off9 k) (k0_off9_inb i k k0_h2))⟩,
   ⟨Rect.unit (s := S768x1536) (k0_off8 k) S32x128.size (k0_off8_inb i k k0_h2), codesV (mAt c i arg9 arg10 arg19 arg1 k0_h2 k f9 f10 f19 6#32 (k0_off8 k) (k0_off8_inb i k k0_h2))⟩,
   ⟨Rect.unit (s := S768x1536) (k0_off7 k) S32x128.size (k0_off7_inb i k k0_h2), codesV (mAt c i arg9 arg10 arg19 arg1 k0_h2 k f9 f10 f19 5#32 (k0_off7 k) (k0_off7_inb i k k0_h2))⟩,
   ⟨Rect.unit (s := S768x1536) (k0_off6 k) S32x128.size (k0_off6_inb i k k0_h2), codesV (mAt c i arg9 arg10 arg19 arg1 k0_h2 k f9 f10 f19 4#32 (k0_off6 k) (k0_off6_inb i k k0_h2))⟩,
   ⟨Rect.unit (s := S768x1536) (k0_off5 k) S32x128.size (k0_off5_inb i k k0_h2), codesV (mAt c i arg9 arg10 arg19 arg1 k0_h2 k f9 f10 f19 3#32 (k0_off5 k) (k0_off5_inb i k k0_h2))⟩,
   ⟨Rect.unit (s := S768x1536) (k0_off4 k) S32x128.size (k0_off4_inb i k k0_h2), codesV (mAt c i arg9 arg10 arg19 arg1 k0_h2 k f9 f10 f19 2#32 (k0_off4 k) (k0_off4_inb i k k0_h2))⟩,
   ⟨Rect.unit (s := S768x1536) (k0_off3 k) S32x128.size (k0_off3_inb i k k0_h2), codesV (mAt c i arg9 arg10 arg19 arg1 k0_h2 k f9 f10 f19 1#32 (k0_off3 k) (k0_off3_inb i k k0_h2))⟩,
   ⟨Rect.unit (s := S768x1536) (k0_off2 k) S32x128.size (k0_off2_inb i k k0_h2), codesV (mAt c i arg9 arg10 arg19 arg1 k0_h2 k f9 f10 f19 0#32 (k0_off2 k) (k0_off2_inb i k k0_h2))⟩]

/-- to its scales, -/
def st16 : List (View.Piece (Elt F) S768x96 .f32) :=
  [⟨Rect.unit (s := S768x96) (k0_off1 k) S32x96.size (k0_off1_inb i k k0_h2), (rowV arg1 11#32 (scaleV (mAt c i arg9 arg10 arg19 arg1 k0_h2 k f9 f10 f19 11#32 (k0_off13 k) (k0_off13_inb i k k0_h2))) (rowV arg1 10#32 (scaleV (mAt c i arg9 arg10 arg19 arg1 k0_h2 k f9 f10 f19 10#32 (k0_off12 k) (k0_off12_inb i k k0_h2))) (rowV arg1 9#32 (scaleV (mAt c i arg9 arg10 arg19 arg1 k0_h2 k f9 f10 f19 9#32 (k0_off11 k) (k0_off11_inb i k k0_h2))) (rowV arg1 8#32 (scaleV (mAt c i arg9 arg10 arg19 arg1 k0_h2 k f9 f10 f19 8#32 (k0_off10 k) (k0_off10_inb i k k0_h2))) (rowV arg1 7#32 (scaleV (mAt c i arg9 arg10 arg19 arg1 k0_h2 k f9 f10 f19 7#32 (k0_off9 k) (k0_off9_inb i k k0_h2))) (rowV arg1 6#32 (scaleV (mAt c i arg9 arg10 arg19 arg1 k0_h2 k f9 f10 f19 6#32 (k0_off8 k) (k0_off8_inb i k k0_h2))) (rowV arg1 5#32 (scaleV (mAt c i arg9 arg10 arg19 arg1 k0_h2 k f9 f10 f19 5#32 (k0_off7 k) (k0_off7_inb i k k0_h2))) (rowV arg1 4#32 (scaleV (mAt c i arg9 arg10 arg19 arg1 k0_h2 k f9 f10 f19 4#32 (k0_off6 k) (k0_off6_inb i k k0_h2))) (rowV arg1 3#32 (scaleV (mAt c i arg9 arg10 arg19 arg1 k0_h2 k f9 f10 f19 3#32 (k0_off5 k) (k0_off5_inb i k k0_h2))) (rowV arg1 2#32 (scaleV (mAt c i arg9 arg10 arg19 arg1 k0_h2 k f9 f10 f19 2#32 (k0_off4 k) (k0_off4_inb i k k0_h2))) (rowV arg1 1#32 (scaleV (mAt c i arg9 arg10 arg19 arg1 k0_h2 k f9 f10 f19 1#32 (k0_off3 k) (k0_off3_inb i k k0_h2))) (rowV arg1 0#32 (scaleV (mAt c i arg9 arg10 arg19 arg1 k0_h2 k f9 f10 f19 0#32 (k0_off2 k) (k0_off2_inb i k k0_h2))) (shapeCast S32x96 (arg16.view.readAt (Elt F) (Rect.unit (s := S768x96) (k0_off1 k) S32x96.size (k0_off1_inb i k k0_h2)).toLoadRect f16) shapeCasts_S32x96_S32x96)))))))))))))⟩]

/-- to the second moment's codes, -/
def st17 : List (View.Piece (Elt F) S768x1536 .fp8e4m3) :=
  [⟨Rect.unit (s := S768x1536) (k0_off13 k) S32x128.size (k0_off13_inb i k k0_h2), codesV (sqrt (vAt c i arg11 arg12 arg19 arg1 k0_h2 k f11 f12 f19 11#32 (k0_off13 k) (k0_off13_inb i k k0_h2)))⟩,
   ⟨Rect.unit (s := S768x1536) (k0_off12 k) S32x128.size (k0_off12_inb i k k0_h2), codesV (sqrt (vAt c i arg11 arg12 arg19 arg1 k0_h2 k f11 f12 f19 10#32 (k0_off12 k) (k0_off12_inb i k k0_h2)))⟩,
   ⟨Rect.unit (s := S768x1536) (k0_off11 k) S32x128.size (k0_off11_inb i k k0_h2), codesV (sqrt (vAt c i arg11 arg12 arg19 arg1 k0_h2 k f11 f12 f19 9#32 (k0_off11 k) (k0_off11_inb i k k0_h2)))⟩,
   ⟨Rect.unit (s := S768x1536) (k0_off10 k) S32x128.size (k0_off10_inb i k k0_h2), codesV (sqrt (vAt c i arg11 arg12 arg19 arg1 k0_h2 k f11 f12 f19 8#32 (k0_off10 k) (k0_off10_inb i k k0_h2)))⟩,
   ⟨Rect.unit (s := S768x1536) (k0_off9 k) S32x128.size (k0_off9_inb i k k0_h2), codesV (sqrt (vAt c i arg11 arg12 arg19 arg1 k0_h2 k f11 f12 f19 7#32 (k0_off9 k) (k0_off9_inb i k k0_h2)))⟩,
   ⟨Rect.unit (s := S768x1536) (k0_off8 k) S32x128.size (k0_off8_inb i k k0_h2), codesV (sqrt (vAt c i arg11 arg12 arg19 arg1 k0_h2 k f11 f12 f19 6#32 (k0_off8 k) (k0_off8_inb i k k0_h2)))⟩,
   ⟨Rect.unit (s := S768x1536) (k0_off7 k) S32x128.size (k0_off7_inb i k k0_h2), codesV (sqrt (vAt c i arg11 arg12 arg19 arg1 k0_h2 k f11 f12 f19 5#32 (k0_off7 k) (k0_off7_inb i k k0_h2)))⟩,
   ⟨Rect.unit (s := S768x1536) (k0_off6 k) S32x128.size (k0_off6_inb i k k0_h2), codesV (sqrt (vAt c i arg11 arg12 arg19 arg1 k0_h2 k f11 f12 f19 4#32 (k0_off6 k) (k0_off6_inb i k k0_h2)))⟩,
   ⟨Rect.unit (s := S768x1536) (k0_off5 k) S32x128.size (k0_off5_inb i k k0_h2), codesV (sqrt (vAt c i arg11 arg12 arg19 arg1 k0_h2 k f11 f12 f19 3#32 (k0_off5 k) (k0_off5_inb i k k0_h2)))⟩,
   ⟨Rect.unit (s := S768x1536) (k0_off4 k) S32x128.size (k0_off4_inb i k k0_h2), codesV (sqrt (vAt c i arg11 arg12 arg19 arg1 k0_h2 k f11 f12 f19 2#32 (k0_off4 k) (k0_off4_inb i k k0_h2)))⟩,
   ⟨Rect.unit (s := S768x1536) (k0_off3 k) S32x128.size (k0_off3_inb i k k0_h2), codesV (sqrt (vAt c i arg11 arg12 arg19 arg1 k0_h2 k f11 f12 f19 1#32 (k0_off3 k) (k0_off3_inb i k k0_h2)))⟩,
   ⟨Rect.unit (s := S768x1536) (k0_off2 k) S32x128.size (k0_off2_inb i k k0_h2), codesV (sqrt (vAt c i arg11 arg12 arg19 arg1 k0_h2 k f11 f12 f19 0#32 (k0_off2 k) (k0_off2_inb i k k0_h2)))⟩]

/-- and to its scales. -/
def st18 : List (View.Piece (Elt F) S768x96 .f32) :=
  [⟨Rect.unit (s := S768x96) (k0_off1 k) S32x96.size (k0_off1_inb i k k0_h2), (rowV arg1 11#32 (scaleV (sqrt <| vAt c i arg11 arg12 arg19 arg1 k0_h2 k f11 f12 f19 11#32 (k0_off13 k) (k0_off13_inb i k k0_h2))) (rowV arg1 10#32 (scaleV (sqrt <| vAt c i arg11 arg12 arg19 arg1 k0_h2 k f11 f12 f19 10#32 (k0_off12 k) (k0_off12_inb i k k0_h2))) (rowV arg1 9#32 (scaleV (sqrt <| vAt c i arg11 arg12 arg19 arg1 k0_h2 k f11 f12 f19 9#32 (k0_off11 k) (k0_off11_inb i k k0_h2))) (rowV arg1 8#32 (scaleV (sqrt <| vAt c i arg11 arg12 arg19 arg1 k0_h2 k f11 f12 f19 8#32 (k0_off10 k) (k0_off10_inb i k k0_h2))) (rowV arg1 7#32 (scaleV (sqrt <| vAt c i arg11 arg12 arg19 arg1 k0_h2 k f11 f12 f19 7#32 (k0_off9 k) (k0_off9_inb i k k0_h2))) (rowV arg1 6#32 (scaleV (sqrt <| vAt c i arg11 arg12 arg19 arg1 k0_h2 k f11 f12 f19 6#32 (k0_off8 k) (k0_off8_inb i k k0_h2))) (rowV arg1 5#32 (scaleV (sqrt <| vAt c i arg11 arg12 arg19 arg1 k0_h2 k f11 f12 f19 5#32 (k0_off7 k) (k0_off7_inb i k k0_h2))) (rowV arg1 4#32 (scaleV (sqrt <| vAt c i arg11 arg12 arg19 arg1 k0_h2 k f11 f12 f19 4#32 (k0_off6 k) (k0_off6_inb i k k0_h2))) (rowV arg1 3#32 (scaleV (sqrt <| vAt c i arg11 arg12 arg19 arg1 k0_h2 k f11 f12 f19 3#32 (k0_off5 k) (k0_off5_inb i k k0_h2))) (rowV arg1 2#32 (scaleV (sqrt <| vAt c i arg11 arg12 arg19 arg1 k0_h2 k f11 f12 f19 2#32 (k0_off4 k) (k0_off4_inb i k k0_h2))) (rowV arg1 1#32 (scaleV (sqrt <| vAt c i arg11 arg12 arg19 arg1 k0_h2 k f11 f12 f19 1#32 (k0_off3 k) (k0_off3_inb i k k0_h2))) (rowV arg1 0#32 (scaleV (sqrt <| vAt c i arg11 arg12 arg19 arg1 k0_h2 k f11 f12 f19 0#32 (k0_off2 k) (k0_off2_inb i k k0_h2))) (shapeCast S32x96 (arg18.view.readAt (Elt F) (Rect.unit (s := S768x96) (k0_off1 k) S32x96.size (k0_off1_inb i k k0_h2)).toLoadRect f18) shapeCasts_S32x96_S32x96)))))))))))))⟩]

/-- What a trip touches: the tiles it reads, the accumulator, and the six outputs at the given contents. -/
abbrev Trip : sProp 𝕄 :=
  iprop((arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg19.view.loc (c : Thread nD τ) ↦[arg19.view.set]{fullShare} f19) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18))

set_option maxHeartbeats 4000000 in
theorem trip :
    Trip c arg8 arg9 arg10 arg11 arg12 arg13 arg14 arg15 arg16 arg17 arg18 arg19 f8 f9 f10 f11 f12 f13 f14 f15 f16 f17 f18 f19
      ⊢ wp frame (wpE (defs₀ (F := F)) 𝒱₀ (c : Thread nD τ) none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 k0_h2 v28 v29 k ())
        (fun _ => Trip c arg8 arg9 arg10 arg11 arg12 arg13 arg14 arg15 arg16 arg17 arg18 arg19 f8 f9 f10 f11 f12 (arg13.view.writes (Elt F) f13 (st13 c i arg8 arg9 arg10 arg11 arg12 arg19 arg1 k0_h2 v28 v29 k f8 f9 f10 f11 f12 f19)) (arg14.view.writes (Elt F) f14 (st14 c i arg9 arg10 arg11 arg12 arg19 arg1 k0_h2 v28 v29 k f9 f10 f11 f12 f19)) (arg15.view.writes (Elt F) f15 (st15 c i arg9 arg10 arg19 arg1 k0_h2 k f9 f10 f19)) (arg16.view.writes (Elt F) f16 (st16 c i arg9 arg10 arg16 arg19 arg1 k0_h2 k f9 f10 f16 f19)) (arg17.view.writes (Elt F) f17 (st17 c i arg11 arg12 arg19 arg1 k0_h2 k f11 f12 f19)) (arg18.view.writes (Elt F) f18 (st18 c i arg11 arg12 arg18 arg19 arg1 k0_h2 k f11 f12 f18 f19)) f19) := by
  unfold k0_t1_body
  iintro ⟨H8, H9, H10, H11, H12, H19, H13, H14, H15, H16, H17, H18⟩
  sl_exec
  sl_step
  isplitl [H8]; · iexact H8
  isplitl [H9]; · iexact H9
  isplitl [H10]; · iexact H10
  isplitl [H11]; · iexact H11
  isplitl [H12]; · iexact H12
  isplitl [H19]; · iexact H19
  isplitl [H13]; · iexact H13
  isplitl [H14]; · iexact H14
  isplitl [H15]; · iexact H15
  isplitl [H16]; · iexact H16
  isplitl [H17]; · iexact H17
  iexact H18

end Trip

end Cert.Proof.KernelIdeal

end
-- ==== Proof.Loop.lean ====
module

public import proofs.«01_k».proof.Proof.Gen.KernelIdeal.Frame
public import proofs.«01_k».proof.Proof.Gen.KernelIdeal.Loops
public import proofs.«01_k».proof.Proof.Trip
public import Idealize.ShloMosaic.Adequacy
public import Idealize.ShloMosaic.Init
public import Idealize.ShloMosaic.Lib.Pipeline.ArrRel

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

/-! The loop of 24 trips: the six outputs as the trips' stores, one trip after the other; and the body of a grid point. -/

local notation "𝕄" => MT nD τ sig Unit (Elt F) ℕ (UR sig nD τ) ℕ

section Body

variable (c : Dev nD) (i : grid0.Coords)
  (arg3 : Memref sig .tc .smem S2 .f32) (harg3 : arg3.IsWhole)
  (arg4 : Memref sig .tc .vmem S1024x768 .fp8e4m3) (harg4 : arg4.IsWhole)
  (arg5 : Memref sig .tc .vmem S1024x1 .f32) (harg5 : arg5.IsWhole)
  (arg6 : Memref sig .tc .vmem S1024x1536 .fp8e5m2) (harg6 : arg6.IsWhole)
  (arg7 : Memref sig .tc .vmem S1024x1 .f32) (harg7 : arg7.IsWhole)
  (arg8 : Memref sig .tc .vmem S768x1536 .bf16) (harg8 : arg8.IsWhole)
  (arg9 : Memref sig .tc .vmem S768x1536 .fp8e4m3) (harg9 : arg9.IsWhole)
  (arg10 : Memref sig .tc .vmem S768x96 .f32) (harg10 : arg10.IsWhole)
  (arg11 : Memref sig .tc .vmem S768x1536 .fp8e4m3) (harg11 : arg11.IsWhole)
  (arg12 : Memref sig .tc .vmem S768x96 .f32) (harg12 : arg12.IsWhole)
  (arg13 : Memref sig .tc .vmem S768x1536 .bf16) (harg13 : arg13.IsWhole)
  (arg14 : Memref sig .tc .vmem S768x1536 .f32) (harg14 : arg14.IsWhole)
  (arg15 : Memref sig .tc .vmem S768x1536 .fp8e4m3) (harg15 : arg15.IsWhole)
  (arg16 : Memref sig .tc .vmem S768x96 .f32) (harg16 : arg16.IsWhole)
  (arg17 : Memref sig .tc .vmem S768x1536 .fp8e4m3) (harg17 : arg17.IsWhole)
  (arg18 : Memref sig .tc .vmem S768x96 .f32) (harg18 : arg18.IsWhole)
  (arg19 : Memref sig .tc .vmem S768x1536 .f32) (harg19 : arg19.IsWhole)
  (arg1 : BitVec 32) (k0_h2 : k0_cond2 i = 1#1) (v28 v29 : Elt F .f32)
  (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ)))

/-- The weights after the first `n` trips, -/
def it13 : ℕ → Buf (Elt F) (arg13.view.loc (c : Thread nD τ))
  | 0 => f13
  | n + 1 => if h : n < k0_t1_loop.trips then arg13.view.writes (Elt F) (it13 n) (st13 c i arg8 arg9 arg10 arg11 arg12 arg19 arg1 k0_h2 v28 v29 ⟨n, h⟩ f8 f9 f10 f11 f12 f19) else it13 n

theorem it13_succ (k : Fin k0_t1_loop.trips) : (it13 c i arg8 arg9 arg10 arg11 arg12 arg13 arg19 arg1 k0_h2 v28 v29 f8 f9 f10 f11 f12 f13 f19 (k.val + 1)) = arg13.view.writes (Elt F) (it13 c i arg8 arg9 arg10 arg11 arg12 arg13 arg19 arg1 k0_h2 v28 v29 f8 f9 f10 f11 f12 f13 f19 k.val) (st13 c i arg8 arg9 arg10 arg11 arg12 arg19 arg1 k0_h2 v28 v29 k f8 f9 f10 f11 f12 f19) := by
  rw [it13]; exact dif_pos k.isLt

/-- the updates, -/
def it14 : ℕ → Buf (Elt F) (arg14.view.loc (c : Thread nD τ))
  | 0 => f14
  | n + 1 => if h : n < k0_t1_loop.trips then arg14.view.writes (Elt F) (it14 n) (st14 c i arg9 arg10 arg11 arg12 arg19 arg1 k0_h2 v28 v29 ⟨n, h⟩ f9 f10 f11 f12 f19) else it14 n

theorem it14_succ (k : Fin k0_t1_loop.trips) : (it14 c i arg9 arg10 arg11 arg12 arg14 arg19 arg1 k0_h2 v28 v29 f9 f10 f11 f12 f14 f19 (k.val + 1)) = arg14.view.writes (Elt F) (it14 c i arg9 arg10 arg11 arg12 arg14 arg19 arg1 k0_h2 v28 v29 f9 f10 f11 f12 f14 f19 k.val) (st14 c i arg9 arg10 arg11 arg12 arg19 arg1 k0_h2 v28 v29 k f9 f10 f11 f12 f19) := by
  rw [it14]; exact dif_pos k.isLt

/-- the first moment's codes, -/
def it15 : ℕ → Buf (Elt F) (arg15.view.loc (c : Thread nD τ))
  | 0 => f15
  | n + 1 => if h : n < k0_t1_loop.trips then arg15.view.writes (Elt F) (it15 n) (st15 c i arg9 arg10 arg19 arg1 k0_h2 ⟨n, h⟩ f9 f10 f19) else it15 n

theorem it15_succ (k : Fin k0_t1_loop.trips) : (it15 c i arg9 arg10 arg15 arg19 arg1 k0_h2 f9 f10 f15 f19 (k.val + 1)) = arg15.view.writes (Elt F) (it15 c i arg9 arg10 arg15 arg19 arg1 k0_h2 f9 f10 f15 f19 k.val) (st15 c i arg9 arg10 arg19 arg1 k0_h2 k f9 f10 f19) := by
  rw [it15]; exact dif_pos k.isLt

/-- its scales, -/
def it16 : ℕ → Buf (Elt F) (arg16.view.loc (c : Thread nD τ))
  | 0 => f16
  | n + 1 => if h : n < k0_t1_loop.trips then arg16.view.writes (Elt F) (it16 n) (st16 c i arg9 arg10 arg16 arg19 arg1 k0_h2 ⟨n, h⟩ f9 f10 (it16 n) f19) else it16 n

theorem it16_succ (k : Fin k0_t1_loop.trips) : (it16 c i arg9 arg10 arg16 arg19 arg1 k0_h2 f9 f10 f16 f19 (k.val + 1)) = arg16.view.writes (Elt F) (it16 c i arg9 arg10 arg16 arg19 arg1 k0_h2 f9 f10 f16 f19 k.val) (st16 c i arg9 arg10 arg16 arg19 arg1 k0_h2 k f9 f10 (it16 c i arg9 arg10 arg16 arg19 arg1 k0_h2 f9 f10 f16 f19 k.val) f19) := by
  rw [it16]; exact dif_pos k.isLt

/-- the second moment's codes, -/
def it17 : ℕ → Buf (Elt F) (arg17.view.loc (c : Thread nD τ))
  | 0 => f17
  | n + 1 => if h : n < k0_t1_loop.trips then arg17.view.writes (Elt F) (it17 n) (st17 c i arg11 arg12 arg19 arg1 k0_h2 ⟨n, h⟩ f11 f12 f19) else it17 n

theorem it17_succ (k : Fin k0_t1_loop.trips) : (it17 c i arg11 arg12 arg17 arg19 arg1 k0_h2 f11 f12 f17 f19 (k.val + 1)) = arg17.view.writes (Elt F) (it17 c i arg11 arg12 arg17 arg19 arg1 k0_h2 f11 f12 f17 f19 k.val) (st17 c i arg11 arg12 arg19 arg1 k0_h2 k f11 f12 f19) := by
  rw [it17]; exact dif_pos k.isLt

/-- and its scales. -/
def it18 : ℕ → Buf (Elt F) (arg18.view.loc (c : Thread nD τ))
  | 0 => f18
  | n + 1 => if h : n < k0_t1_loop.trips then arg18.view.writes (Elt F) (it18 n) (st18 c i arg11 arg12 arg18 arg19 arg1 k0_h2 ⟨n, h⟩ f11 f12 (it18 n) f19) else it18 n

theorem it18_succ (k : Fin k0_t1_loop.trips) : (it18 c i arg11 arg12 arg18 arg19 arg1 k0_h2 f11 f12 f18 f19 (k.val + 1)) = arg18.view.writes (Elt F) (it18 c i arg11 arg12 arg18 arg19 arg1 k0_h2 f11 f12 f18 f19 k.val) (st18 c i arg11 arg12 arg18 arg19 arg1 k0_h2 k f11 f12 (it18 c i arg11 arg12 arg18 arg19 arg1 k0_h2 f11 f12 f18 f19 k.val) f19) := by
  rw [it18]; exact dif_pos k.isLt

set_option warn.classDefReducibility false in
/-- The row loop: what it reads is unchanged, each output is as far as the trips so far. -/
@[sl_loop] def loopInv :
    LoopInvTy_k0_t1 (F := F) Unit ℕ (UU nD τ) ℕ 𝒱₀ c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 k0_h2 v28 v29 where
  inv k _ := Trip c arg8 arg9 arg10 arg11 arg12 arg13 arg14 arg15 arg16 arg17 arg18 arg19 f8 f9 f10 f11 f12 (it13 c i arg8 arg9 arg10 arg11 arg12 arg13 arg19 arg1 k0_h2 v28 v29 f8 f9 f10 f11 f12 f13 f19 k) (it14 c i arg9 arg10 arg11 arg12 arg14 arg19 arg1 k0_h2 v28 v29 f9 f10 f11 f12 f14 f19 k) (it15 c i arg9 arg10 arg15 arg19 arg1 k0_h2 f9 f10 f15 f19 k) (it16 c i arg9 arg10 arg16 arg19 arg1 k0_h2 f9 f10 f16 f19 k) (it17 c i arg11 arg12 arg17 arg19 arg1 k0_h2 f11 f12 f17 f19 k) (it18 c i arg11 arg12 arg18 arg19 arg1 k0_h2 f11 f12 f18 f19 k) f19
  step k _ := by
    have h := trip c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 k0_h2 v28 v29 k f8 f9 f10 f11 f12 (it13 c i arg8 arg9 arg10 arg11 arg12 arg13 arg19 arg1 k0_h2 v28 v29 f8 f9 f10 f11 f12 f13 f19 k.val) (it14 c i arg9 arg10 arg11 arg12 arg14 arg19 arg1 k0_h2 v28 v29 f9 f10 f11 f12 f14 f19 k.val) (it15 c i arg9 arg10 arg15 arg19 arg1 k0_h2 f9 f10 f15 f19 k.val) (it16 c i arg9 arg10 arg16 arg19 arg1 k0_h2 f9 f10 f16 f19 k.val) (it17 c i arg11 arg12 arg17 arg19 arg1 k0_h2 f11 f12 f17 f19 k.val) (it18 c i arg11 arg12 arg18 arg19 arg1 k0_h2 f11 f12 f18 f19 k.val) f19
    rw [← it13_succ, ← it14_succ, ← it15_succ, ← it16_succ, ← it17_succ, ← it18_succ] at h
    exact h

end Body

end Cert.Proof.KernelIdeal

end
-- ==== Proof.Body.lean ====
module

public import proofs.«01_k».proof.Proof.Gen.KernelIdeal.Frame
public import proofs.«01_k».proof.Proof.Gen.KernelIdeal.Loops
public import proofs.«01_k».proof.Proof.Loop
public import Idealize.ShloMosaic.Adequacy
public import Idealize.ShloMosaic.Init
public import Idealize.ShloMosaic.Lib.Pipeline.ArrRel
public import Idealize.ShloMosaic.Lib.VecWindow
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

/-! The body of a grid point: what the accumulator and the outputs hold after it. -/

local notation "𝕄" => MT nD τ sig Unit (Elt F) ℕ (UR sig nD τ) ℕ

/-- A word of the bias corrections. -/
abbrev bcAt (arg3 : Memref sig .tc .smem S2 .f32) (c : Dev nD) (f3 : Buf (Elt F) (arg3.view.loc (c : Thread nD τ))) (n : Fin 2) : Elt F .f32 :=
  arg3.view.read (Elt F) f3 (ix1 n)

/-- The first grid point of a tile. -/
abbrev first (i : grid0.Coords) : Prop := Scalar.cmpi .ne (Scalar.extui (Scalar.cmpi .eq (BitVec.ofNat 32 (i 2).val) 0#32) : BitVec 32) 0#32 = 1#1

open Classical in
/-- The accumulator after a grid point, from the tiles it reads and the accumulator before. -/
def accNext (i : grid0.Coords) (x : Vec F S1024x768 .fp8e4m3) (xs : Vec F S1024x1 .f32) (dy : Vec F S1024x1536 .fp8e5m2) (dys : Vec F S1024x1 .f32)
    (a : Vec F S768x1536 .f32) : Vec F S768x1536 .f32 :=
  k0_pay2 x xs dy dys (if first i then k0_pay1 else a)

theorem bc_at (arg3 : Memref sig .tc .smem S2 .f32) (c : Dev nD) (f3 : Buf (Elt F) (arg3.view.loc (c : Thread nD τ))) (n : Fin 2)
    (inb : ∀ a, (![n.val] : Fin 1 → ℕ) a + S1.size a ≤ S2.size a) (x : (Rect.unit (s := S2) ![n.val] S1.size inb).shape.Idx) :
    arg3.view.readAt (Elt F) (Rect.unit (s := S2) ![n.val] S1.size inb).toLoadRect f3 x = bcAt arg3 c f3 n := by
  refine congrArg (arg3.view.read (Elt F) f3) (funext fun a => Fin.ext ?_)
  match a with
  | ⟨0, _⟩ =>
    show n.val + 1 * (x 0).val = n.val
    have : (x 0).val < 1 := (x 0).isLt
    omega

theorem pay2_congr {x x' : Vec F S1024x768 .fp8e4m3} {xs xs' : Vec F S1024x1 .f32} {dy dy' : Vec F S1024x1536 .fp8e5m2} {dys dys' : Vec F S1024x1 .f32}
    {a a' : Vec F S768x1536 .f32} (h1 : x = x') (h2 : xs = xs') (h3 : dy = dy') (h4 : dys = dys') (h5 : a = a') :
    k0_pay2 x xs dy dys a = k0_pay2 x' xs' dy' dys' a' := by subst h1 h2 h3 h4 h5; rfl

section Body

variable (c : Dev nD) (i : grid0.Coords)
  (arg3 : Memref sig .tc .smem S2 .f32) (harg3 : arg3.IsWhole)
  (arg4 : Memref sig .tc .vmem S1024x768 .fp8e4m3) (harg4 : arg4.IsWhole)
  (arg5 : Memref sig .tc .vmem S1024x1 .f32) (harg5 : arg5.IsWhole)
  (arg6 : Memref sig .tc .vmem S1024x1536 .fp8e5m2) (harg6 : arg6.IsWhole)
  (arg7 : Memref sig .tc .vmem S1024x1 .f32) (harg7 : arg7.IsWhole)
  (arg8 : Memref sig .tc .vmem S768x1536 .bf16) (harg8 : arg8.IsWhole)
  (arg9 : Memref sig .tc .vmem S768x1536 .fp8e4m3) (harg9 : arg9.IsWhole)
  (arg10 : Memref sig .tc .vmem S768x96 .f32) (harg10 : arg10.IsWhole)
  (arg11 : Memref sig .tc .vmem S768x1536 .fp8e4m3) (harg11 : arg11.IsWhole)
  (arg12 : Memref sig .tc .vmem S768x96 .f32) (harg12 : arg12.IsWhole)
  (arg13 : Memref sig .tc .vmem S768x1536 .bf16) (harg13 : arg13.IsWhole)
  (arg14 : Memref sig .tc .vmem S768x1536 .f32) (harg14 : arg14.IsWhole)
  (arg15 : Memref sig .tc .vmem S768x1536 .fp8e4m3) (harg15 : arg15.IsWhole)
  (arg16 : Memref sig .tc .vmem S768x96 .f32) (harg16 : arg16.IsWhole)
  (arg17 : Memref sig .tc .vmem S768x1536 .fp8e4m3) (harg17 : arg17.IsWhole)
  (arg18 : Memref sig .tc .vmem S768x96 .f32) (harg18 : arg18.IsWhole)
  (arg19 : Memref sig .tc .vmem S768x1536 .f32) (harg19 : arg19.IsWhole)
  (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) (f16 : Buf (Elt F) (arg16.view.loc (c : Thread nD τ))) (f17 : Buf (Elt F) (arg17.view.loc (c : Thread nD τ))) (f18 : Buf (Elt F) (arg18.view.loc (c : Thread nD τ))) (f19 : Buf (Elt F) (arg19.view.loc (c : Thread nD τ)))

/-- What the body leaves in the outputs and the accumulator. -/
def Left (g13 : Buf (Elt F) (arg13.view.loc (c : Thread nD τ))) (g14 : Buf (Elt F) (arg14.view.loc (c : Thread nD τ))) (g15 : Buf (Elt F) (arg15.view.loc (c : Thread nD τ))) (g16 : Buf (Elt F) (arg16.view.loc (c : Thread nD τ))) (g17 : Buf (Elt F) (arg17.view.loc (c : Thread nD τ))) (g18 : Buf (Elt F) (arg18.view.loc (c : Thread nD τ))) (g19 : Buf (Elt F) (arg19.view.loc (c : Thread nD τ))) : Prop :=
  arg19.view.read (Elt F) g19 = accNext i (arg4.view.read (Elt F) f4) (arg5.view.read (Elt F) f5) (arg6.view.read (Elt F) f6) (arg7.view.read (Elt F) f7) (arg19.view.read (Elt F) f19)
  ∧ (∀ h2 : k0_cond2 i = 1#1, ∃ v28 v29, (g13 = it13 c i arg8 arg9 arg10 arg11 arg12 arg13 arg19 (BitVec.ofNat 32 (i 1).val) h2 v28 v29 f8 f9 f10 f11 f12 f13 g19 (Scf.trips k0_t1_loop.lb k0_t1_loop.ub k0_t1_loop.st) ∧ g14 = it14 c i arg9 arg10 arg11 arg12 arg14 arg19 (BitVec.ofNat 32 (i 1).val) h2 v28 v29 f9 f10 f11 f12 f14 g19 (Scf.trips k0_t1_loop.lb k0_t1_loop.ub k0_t1_loop.st) ∧ g15 = it15 c i arg9 arg10 arg15 arg19 (BitVec.ofNat 32 (i 1).val) h2 f9 f10 f15 g19 (Scf.trips k0_t1_loop.lb k0_t1_loop.ub k0_t1_loop.st) ∧ g16 = it16 c i arg9 arg10 arg16 arg19 (BitVec.ofNat 32 (i 1).val) h2 f9 f10 f16 g19 (Scf.trips k0_t1_loop.lb k0_t1_loop.ub k0_t1_loop.st) ∧ g17 = it17 c i arg11 arg12 arg17 arg19 (BitVec.ofNat 32 (i 1).val) h2 f11 f12 f17 g19 (Scf.trips k0_t1_loop.lb k0_t1_loop.ub k0_t1_loop.st) ∧ g18 = it18 c i arg11 arg12 arg18 arg19 (BitVec.ofNat 32 (i 1).val) h2 f11 f12 f18 g19 (Scf.trips k0_t1_loop.lb k0_t1_loop.ub k0_t1_loop.st)) ∧ v28 = bcAt arg3 c f3 0 ∧ v29 = bcAt arg3 c f3 1)
  ∧ (k0_cond2 i ≠ 1#1 → g13 = f13 ∧ g14 = f14 ∧ g15 = f15 ∧ g16 = f16 ∧ g17 = f17 ∧ g18 = f18)

theorem body_run :
    (iprop((arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19)) : sProp 𝕄)
      ⊢ wp frame (wpE (defs₀ (F := F)) 𝒱₀ (c : Thread nD τ) none) Set.univ (cc0_wgrad_adam (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => iprop(∃ g13 : Buf (Elt F) (arg13.view.loc (c : Thread nD τ)), ∃ g14 : Buf (Elt F) (arg14.view.loc (c : Thread nD τ)), ∃ g15 : Buf (Elt F) (arg15.view.loc (c : Thread nD τ)), ∃ g16 : Buf (Elt F) (arg16.view.loc (c : Thread nD τ)), ∃ g17 : Buf (Elt F) (arg17.view.loc (c : Thread nD τ)), ∃ g18 : Buf (Elt F) (arg18.view.loc (c : Thread nD τ)), ∃ g19 : Buf (Elt F) (arg19.view.loc (c : Thread nD τ)), ⌜Left c i arg3 arg4 arg5 arg6 arg7 arg8 arg9 arg10 arg11 arg12 arg13 arg14 arg15 arg16 arg17 arg18 arg19 f3 f4 f5 f6 f7 f8 f9 f10 f11 f12 f13 f14 f15 f16 f17 f18 f19 g13 g14 g15 g16 g17 g18 g19⌝ ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} g13) ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19))) := by
  simp only [cc0_wgrad_adam_eq_skeleton]; unfold cc0_wgrad_adam_skel
  by_cases h1 : first i <;>
  by_cases h2 : k0_cond2 i = 1#1
  all_goals
    iintro ⟨H3, H4, H5, H6, H7, H8, H9, H10, H11, H12, H13, H14, H15, H16, H17, H18, H19⟩
    sl_exec
    sl_step
    iexists _, _, _, _, _, _, _
    isplitr
    rotate_left
    · isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    · ipureintro
      refine ⟨?_, fun h => ?_, fun h => ?_⟩
      · unfold accNext
        first | rw [if_pos h1] | rw [if_neg h1]
        refine (View.read_writes_full _ _ _ _ _).trans (pay2_congr ?_ ?_ ?_ ?_ ?_)
        · exact View.readAt_full _ _ _
        · exact View.readAt_full _ _ _
        · exact View.readAt_full _ _ _
        · exact View.readAt_full _ _ _
        · first | exact View.readAt_full _ _ _ | exact View.readCov_full _ _ _ _ _
      · first | exact absurd h h2 | exact ⟨_, _, ⟨rfl, rfl, rfl, rfl, rfl, rfl⟩, bc_at arg3 c f3 0 _ _, bc_at arg3 c f3 1 _ _⟩
      · first | exact absurd h2 h | exact ⟨rfl, rfl, rfl, rfl, rfl, rfl⟩

end Body

end Cert.Proof.KernelIdeal

end
-- ==== Proof.Scalar.lean ====
module

public import Idealize.ShloMosaic.Lib.Pointwise

@[expose] public section

set_option maxRecDepth 16384

noncomputable section

/-! The arithmetic of one element and the two ways of taking a block's power of two: by the exponent field of a float (how many of the
    powers of two are at most `a`), and as `2 ^ (⌊log₂ a⌋ + 1)`. They agree at every `a ≥ 0`. -/

namespace Cert.Proof

open Idealize.ShloMosaic

/-- The word of field `n` with a zero fraction. -/
abbrev powW (n : ℕ) : BitVec 32 := IntOp.shli .vector (BitVec.ofNat 32 n) 23#32

theorem powW_fields : ∀ n : Fin 256, ((powW n.val).extractLsb' 23 8).toNat = n.val ∧ ((powW n.val).extractLsb' 0 23).toNat = 0
    ∧ ((powW n.val).extractLsb' 31 1 == 1#1) = false := by decide +kernel

theorem ieee_pow (b : BitVec 32) (n : ℕ) (e1 : (b.extractLsb' 23 8).toNat = n) (e2 : (b.extractLsb' 0 23).toNat = 0)
    (e3 : (b.extractLsb' 31 1 == 1#1) = false) (h0 : n ≠ 0) (h5 : n ≠ 255) :
    Ideal.ieee 8 23 b = (((2 : ℝ) ^ ((n : ℤ) - 127) : ℝ) : EReal) := by
  unfold Ideal.ieee
  simp only [show 8 + 23 = 31 from rfl, e1, e2, e3]
  rw [if_neg (by omega), if_neg h0]
  congr 1
  rw [show ((n : ℤ) - 127 : ℤ) = 23 + ((n : ℤ) - (2 ^ (8 - 1) - 1) - (23 : ℕ)) by push_cast; ring, zpow_add₀ (by norm_num)]
  norm_num

theorem pow_mid {n : ℕ} (h1 : 1 ≤ n) (h2 : n ≤ 254) : Ideal.ofBits .f32 (powW n) = (((2 : ℝ) ^ ((n : ℤ) - 127) : ℝ) : EReal) := by
  obtain ⟨e1, e2, e3⟩ := powW_fields ⟨n, by omega⟩
  exact ieee_pow _ n e1 e2 e3 (by omega) (by omega)

theorem pow_zero' : Ideal.ofBits .f32 (powW 0) = 0 := by
  rw [show powW 0 = 0#32 by decide]; exact Ideal.ofBits_zero_f32

theorem pow_top : Ideal.ofBits .f32 (powW 255) = ⊤ := by
  rw [show powW 255 = 0x7F800000#32 by decide]; simp [Ideal.ofBits, Ideal.ieee]

theorem pow_mono {x y : ℕ} (h : x ≤ y) (hy : y < 256) : Ideal.ofBits .f32 (powW x) ≤ Ideal.ofBits .f32 (powW y) := by
  rcases Nat.eq_zero_or_pos x with rfl | hx
  · rw [pow_zero']
    rcases Nat.eq_zero_or_pos y with rfl | hy0
    · rw [pow_zero']
    · by_cases h5 : y = 255
      · subst h5; rw [pow_top]; exact le_top
      · rw [pow_mid hy0 (by omega)]; exact_mod_cast (by positivity)
  · by_cases h5 : y = 255
    · subst h5; rw [pow_top]; exact le_top
    · rw [pow_mid hx (by omega), pow_mid (by omega) (by omega)]
      exact EReal.coe_le_coe_iff.mpr (zpow_le_zpow_right₀ (by norm_num) (by omega))

/-- The powers of two at most `a` are the first `b + 1`. -/
theorem level (a : EReal) (ha : 0 ≤ a) : ∃ b < 256, ∀ x < 256, Ideal.ofBits .f32 (powW x) ≤ a ↔ x ≤ b := by
  classical
  let Q : ℕ → Prop := fun x => Ideal.ofBits .f32 (powW x) ≤ a
  have h0 : Q 0 := by show _ ≤ _; rw [pow_zero']; exact ha
  refine ⟨Nat.findGreatest Q 255, lt_of_le_of_lt (Nat.findGreatest_le 255) (by norm_num), fun x hx => ⟨fun h => ?_, fun h => ?_⟩⟩
  · exact Nat.le_findGreatest (by omega) h
  · have hb : Q (Nat.findGreatest Q 255) := Nat.findGreatest_spec (m := 0) (by omega) h0
    exact le_trans (pow_mono h (lt_of_le_of_lt (Nat.findGreatest_le 255) (by norm_num))) hb

/-- How many of them there are. -/
def countE (a : EReal) : EReal := ∑ x : Fin 256, if Ideal.ofBits .f32 (powW x.val) ≤ a then (1 : EReal) else 0

theorem count_range (b n : ℕ) : (∑ x ∈ Finset.range n, if x ≤ b then (1 : EReal) else 0) = (((min n (b + 1) : ℕ) : ℝ) : EReal) := by
  induction n with
  | zero => simp
  | succ n ih =>
    rw [Finset.sum_range_succ, ih]
    by_cases h : n ≤ b
    · rw [if_pos h, show min n (b + 1) = n by omega, show min (n + 1) (b + 1) = n + 1 by omega]; push_cast; rfl
    · rw [if_neg h, show min n (b + 1) = b + 1 by omega, show min (n + 1) (b + 1) = b + 1 by omega, add_zero]

theorem countE_eq {a : EReal} {b : ℕ} (hb : b < 256) (h : ∀ x < 256, Ideal.ofBits .f32 (powW x) ≤ a ↔ x ≤ b) :
    countE a = (((b + 1 : ℕ) : ℝ) : EReal) := by
  unfold countE
  rw [Finset.sum_congr rfl (fun (x : Fin 256) _ => by rw [if_congr (h x.val x.isLt) rfl rfl] :
      ∀ x ∈ (Finset.univ : Finset (Fin 256)), (if Ideal.ofBits .f32 (powW x.val) ≤ a then (1 : EReal) else 0) = if x.val ≤ b then 1 else 0),
    Fin.sum_univ_eq_sum_range (fun x => if x ≤ b then (1 : EReal) else 0), count_range, show min 256 (b + 1) = b + 1 by omega]

theorem fptosi_nat {n : ℕ} (h : n < 1000) : Ideal.fptosi 32 (((n : ℕ) : ℝ) : EReal) = BitVec.ofNat 32 n := by
  unfold Ideal.fptosi
  rw [Ideal.toIntClamped_coe, if_pos (by positivity), Int.floor_natCast, max_eq_right (by omega), min_eq_right (by omega)]
  exact BitVec.ofInt_natCast ..

/-- The exponent `e` the kernel reads off the count, -/
def expW (f : BitVec 32) : BitVec 32 :=
  Scalar.select (IntOp.cmpi .eq (IntOp.subi f 1#32) 0#32) (0#32) (IntOp.subi (IntOp.subi f 1#32) 126#32)
/-- and the words of `2 ^ e` and `2 ^ -e`. -/
def scaleW (f : BitVec 32) : BitVec 32 := IntOp.shli .vector (IntOp.addi (expW f) 127#32) 23#32
def invW (f : BitVec 32) : BitVec 32 := IntOp.shli .vector (IntOp.subi 127#32 (expW f)) 23#32

theorem words : ∀ b : Fin 256, scaleW (BitVec.ofNat 32 (b.val + 1)) = (if b.val = 0 then powW 127 else if b.val ≤ 254 then powW (b.val + 1) else 0x80000000#32)
    ∧ invW (BitVec.ofNat 32 (b.val + 1)) = (if b.val = 0 then powW 127 else if b.val ≤ 253 then powW (253 - b.val) else if b.val = 254 then 0xFF800000#32 else 0xFF000000#32) := by
  decide +kernel

/-- A block's scale and factor, by the exponent field, -/
def scaleK (a : EReal) : EReal := Ideal.ofBits .f32 (scaleW (Ideal.fptosi 32 (countE a)))
def invK (a : EReal) : EReal := Ideal.ofBits .f32 (invW (Ideal.fptosi 32 (countE a)))

/-- and by the logarithm. -/
def expR (a : EReal) : EReal :=
  if a < Ideal.ofBits .f32 0x00800000#32 then 0 else Ideal.liftRound Int.floor (Ideal.div (Ideal.log a) (Ideal.log (Ideal.ofBits .f32 0x40000000#32))) + 1
def scaleR (a : EReal) : EReal :=
  if expR a < Ideal.ofBits .f32 0x43000000#32 then Ideal.exp2 (expR a)
  else if expR a < Ideal.ofBits .f32 0x7F800000#32 then Ideal.ofBits .f32 0x7F800000#32 else 0
def invR (a : EReal) : EReal :=
  if expR a < Ideal.ofBits .f32 0x42FE0000#32 then Ideal.exp2 (0 - expR a)
  else if expR a < Ideal.ofBits .f32 0x43000000#32 then 0
  else if expR a < Ideal.ofBits .f32 0x7F800000#32 then Ideal.ofBits .f32 0xFF800000#32 else Ideal.ofBits .f32 0xFF000000#32

theorem w_two : Ideal.ofBits .f32 0x40000000#32 = ((2 : ℝ) : EReal) := by
  rw [show (0x40000000#32 : BitVec 32) = powW 128 by decide, pow_mid (by norm_num) (by norm_num)]; norm_num
theorem w_min : Ideal.ofBits .f32 0x00800000#32 = Ideal.ofBits .f32 (powW 1) := by rw [show (0x00800000#32 : BitVec 32) = powW 1 by decide]
theorem w_128 : Ideal.ofBits .f32 0x43000000#32 = ((128 : ℝ) : EReal) := by
  rw [show (0x43000000#32 : BitVec 32) = powW 134 by decide, pow_mid (by norm_num) (by norm_num)]; norm_num
theorem w_127 : Ideal.ofBits .f32 0x42FE0000#32 = ((127 : ℝ) : EReal) := by
  simp [Ideal.ofBits, Ideal.ieee, -EReal.coe_mul]; norm_num
theorem w_top : Ideal.ofBits .f32 0x7F800000#32 = ⊤ := by
  rw [show (0x7F800000#32 : BitVec 32) = powW 255 by decide, pow_top]
theorem w_negzero : Ideal.ofBits .f32 0x80000000#32 = 0 := by
  simp [Ideal.ofBits, Ideal.ieee]

theorem le_log2 {r : ℝ} (k : ℤ) (h : (2 : ℝ) ^ k ≤ r) : (k : ℝ) ≤ Real.log r / Real.log 2 := by
  rw [le_div_iff₀ (Real.log_pos (by norm_num)), ← Real.log_zpow]
  exact Real.log_le_log (by positivity) h
theorem log2_lt {r : ℝ} (k : ℤ) (hr : 0 < r) (h : r < (2 : ℝ) ^ k) : Real.log r / Real.log 2 < (k : ℝ) := by
  rw [div_lt_iff₀ (Real.log_pos (by norm_num)), ← Real.log_zpow]
  exact Real.log_lt_log hr h

/-- The exponent of a positive real between two powers of two. -/
theorem expR_mid {r : ℝ} {k : ℤ} (hk : -126 ≤ k) (h1 : (2 : ℝ) ^ k ≤ r) (h2 : r < (2 : ℝ) ^ (k + 1)) :
    expR (r : EReal) = (((k + 1 : ℤ) : ℝ) : EReal) := by
  have hr : 0 < r := lt_of_lt_of_le (by positivity) h1
  unfold expR
  rw [w_min, pow_mid (by norm_num) (by norm_num), if_neg, w_two, Ideal.log_coe, Ideal.log_coe, if_neg (not_le.mpr hr), if_neg (by norm_num),
    Ideal.div_coe (by positivity), ← EReal.coe_mul, Ideal.liftRound_coe, mul_one_div]
  · have : ⌊Real.log r / Real.log 2⌋ = k := by
      rw [Int.floor_eq_iff]
      constructor
      · exact le_log2 k h1
      · have h2' := log2_lt (k + 1) hr h2
        push_cast at h2'; exact h2'
    rw [this]; push_cast; rfl
  · rw [not_lt]
    refine EReal.coe_le_coe_iff.mpr (le_trans ?_ h1)
    exact zpow_le_zpow_right₀ (by norm_num) (by push_cast; omega)

/-- And of a real beyond all finite floats. -/
theorem expR_big {r : ℝ} (h1 : (2 : ℝ) ^ (127 : ℤ) ≤ r) : ∃ z : ℝ, 128 ≤ z ∧ expR (r : EReal) = (z : EReal) := by
  have hr : 0 < r := lt_of_lt_of_le (by positivity) h1
  refine ⟨(⌊Real.log r / Real.log 2⌋ : ℝ) + 1, ?_, ?_⟩
  · have : (127 : ℤ) ≤ ⌊Real.log r / Real.log 2⌋ := by
      rw [Int.le_floor]; exact le_log2 127 h1
    have : ((127 : ℤ) : ℝ) ≤ (⌊Real.log r / Real.log 2⌋ : ℝ) := by exact_mod_cast this
    push_cast at this; linarith
  · unfold expR
    rw [w_min, pow_mid (by norm_num) (by norm_num), if_neg, w_two, Ideal.log_coe, Ideal.log_coe, if_neg (not_le.mpr hr), if_neg (by norm_num),
      Ideal.div_coe (by positivity), ← EReal.coe_mul, Ideal.liftRound_coe, mul_one_div]
    · push_cast; rfl
    · rw [not_lt]
      refine EReal.coe_le_coe_iff.mpr (le_trans ?_ h1)
      exact zpow_le_zpow_right₀ (by norm_num) (by norm_num)

theorem expR_top : expR ⊤ = ⊤ := by
  unfold expR
  rw [if_neg (by simp), w_two, Ideal.log_top, Ideal.log_coe, if_neg (by norm_num), Ideal.div_coe (by positivity),
    EReal.top_mul_coe_of_pos (by positivity), Ideal.liftRound_top]
  rfl

theorem scale_inv (a : EReal) (ha : 0 ≤ a) : scaleK a = scaleR a ∧ invK a = invR a := by
  obtain ⟨b, hb, h⟩ := level a ha
  obtain ⟨hw1, hw2⟩ := words ⟨b, hb⟩
  simp only at hw1 hw2
  unfold scaleK invK
  rw [countE_eq hb h, fptosi_nat (by omega), hw1, hw2]
  unfold scaleR invR
  rcases Nat.eq_zero_or_pos b with rfl | hb0
  · have he : expR a = ((0 : ℝ) : EReal) := by
      unfold expR
      rw [if_pos]; · rfl
      rw [w_min, ← not_le, h 1 (by norm_num)]; omega
    rw [he, if_pos rfl, if_pos rfl, pow_mid (by norm_num) (by norm_num), w_128, w_127, if_pos (EReal.coe_lt_coe_iff.mpr (by norm_num)),
      if_pos (EReal.coe_lt_coe_iff.mpr (by norm_num)), ← EReal.coe_zero, ← EReal.coe_sub, Ideal.exp2_coe, Ideal.exp2_coe]
    simp
  have hbn : b ≠ 0 := by omega
  simp only [if_neg hbn]
  by_cases h5 : b = 255
  · subst h5
    have hat : a = ⊤ := top_le_iff.mp (pow_top ▸ (h 255 (by norm_num)).mpr le_rfl)
    subst hat
    rw [expR_top, w_128, w_127, w_top, if_neg (by simp), if_neg (by simp), if_neg (by simp), if_neg (by simp), if_neg (by simp),
      if_neg (by simp), if_neg (by simp), if_neg (by simp), w_negzero]
    exact ⟨rfl, rfl⟩
  have hlt : a < Ideal.ofBits .f32 (powW (b + 1)) := by rw [← not_le, h (b + 1) (by omega)]; omega
  have hge : Ideal.ofBits .f32 (powW b) ≤ a := (h b (by omega)).mpr le_rfl
  rw [pow_mid hb0 (by omega)] at hge
  have hr : ∃ r : ℝ, a = (r : EReal) := by
    induction a with
    | bot => simp at ha
    | top => simp at hlt
    | coe r => exact ⟨r, rfl⟩
  obtain ⟨r, rfl⟩ := hr
  rw [EReal.coe_le_coe_iff] at hge
  by_cases h4 : b = 254
  · subst h4
    obtain ⟨z, hz, he⟩ := expR_big (r := r) (le_trans (le_of_eq (by norm_num)) hge)
    have n1 : ¬((z : EReal) < ((128 : ℝ) : EReal)) := not_lt.mpr (EReal.coe_le_coe_iff.mpr hz)
    have n2 : ¬((z : EReal) < ((127 : ℝ) : EReal)) := not_lt.mpr (EReal.coe_le_coe_iff.mpr (by linarith))
    rw [he, w_128, w_127, w_top, if_neg n1, if_pos (EReal.coe_lt_top z), if_neg n2, if_neg n1, if_pos (EReal.coe_lt_top z)]
    constructor
    · rw [if_pos (by norm_num)]; exact pow_top
    · rw [if_neg (by norm_num), if_pos rfl]
  have h3 : b ≤ 253 := by omega
  rw [pow_mid (by omega) (by omega), EReal.coe_lt_coe_iff] at hlt
  have he := expR_mid (r := r) (k := (b : ℤ) - 127) (by omega) hge (by convert hlt using 2; push_cast; ring)
  rw [he, w_128, w_127]
  have hb' : (b : ℝ) ≤ 253 := by exact_mod_cast h3
  constructor
  · rw [if_pos (by omega), if_pos (EReal.coe_lt_coe_iff.mpr (by push_cast; linarith)), pow_mid (by omega) (by omega), Ideal.exp2_coe]
    congr 1
    show _ = (2 : ℝ) ^ (_ : ℝ)
    rw [Real.rpow_intCast]; congr 1; push_cast; ring
  · rw [if_pos h3]
    by_cases h2 : b = 253
    · subst h2
      rw [if_neg (not_lt.mpr (EReal.coe_le_coe_iff.mpr (by norm_num))), if_pos (EReal.coe_lt_coe_iff.mpr (by norm_num))]
      exact pow_zero'
    · have hb'' : (b : ℝ) ≤ 252 := by exact_mod_cast (show b ≤ 252 by omega)
      rw [if_pos (EReal.coe_lt_coe_iff.mpr (by push_cast; linarith)), pow_mid (by omega) (by omega), ← EReal.coe_zero, ← EReal.coe_sub, Ideal.exp2_coe]
      congr 1
      show _ = (2 : ℝ) ^ (_ : ℝ)
      rw [show (0 : ℝ) - (((b : ℤ) - 127 + 1 : ℤ) : ℝ) = ((126 - (b : ℤ) : ℤ) : ℝ) by push_cast; ring, Real.rpow_intCast]
      congr 1
      push_cast [Nat.cast_sub (show b ≤ 253 from h3)]; ring

/-- The new first moment, the new second moment, the update, the code of an element. -/
def mS (g mc sc : EReal) : EReal := Ideal.ofBits .f32 0x3F666666#32 * (mc * sc) + Ideal.ofBits .f32 0x3DCCCCCD#32 * g
def vS (g c sc : EReal) : EReal := Ideal.ofBits .f32 0x3F7FBE77#32 * ((c * sc) * (c * sc)) + Ideal.ofBits .f32 0x3A83126F#32 * g * g
def updS (b1 b2 m v : EReal) : EReal :=
  Ideal.div (Ideal.ofBits .f32 0xBA83126F#32 * Ideal.div m b1) (Ideal.sqrt (Ideal.div v b2) + Ideal.ofBits .f32 0x322BCC77#32)
def codeS (v inv : EReal) : EReal := min (Ideal.ofBits .f32 0x43E00000#32) (max (Ideal.ofBits .f32 0xC3E00000#32) (v * inv))

/-- The largest magnitude of a block, over 448. -/
def magS (f : Fin 128 → EReal) : EReal :=
  Finset.fold max (Ideal.ofBits .f32 0xFF800000#32) (fun x => (FloatOps.absf (F := Ideal) (φ := .f32) (f x) : EReal)) Finset.univ * Ideal.ofBits .f32 0x3B124925#32

theorem w_inv448 : ∃ z : ℝ, 0 ≤ z ∧ Ideal.ofBits .f32 0x3B124925#32 = (z : EReal) := by
  refine ⟨_, ?_, show Ideal.ieee 8 23 0x3B124925#32 = _ by simp [Ideal.ieee]; rfl⟩
  norm_num

theorem magS_nonneg (f : Fin 128 → EReal) : 0 ≤ magS f := by
  unfold magS
  obtain ⟨z, hz, e⟩ := w_inv448
  rw [e]
  refine mul_nonneg ?_ (by exact_mod_cast hz)
  rw [Finset.le_fold_max]
  refine Or.inr ⟨0, Finset.mem_univ _, ?_⟩
  show (0 : EReal) ≤ max (f 0) (-(f 0))
  rcases le_total 0 (f 0) with h | h
  · exact le_max_of_le_left h
  · exact le_max_of_le_right (EReal.neg_nonneg.mpr h)

end Cert.Proof

end
-- ==== Proof.Elem.lean ====
module

public import proofs.«01_k».proof.Proof.Spec
public import proofs.«01_k».proof.Proof.Scalar
public import Idealize.ShloMosaic.Lib.Pointwise
public import Idealize.ShloMosaic.Lib.Pipeline.ValueKit

@[expose] public section

set_option maxRecDepth 16384

noncomputable section

/-! The vectors of one block of the epilogue, element by element, over the extended reals. -/

namespace Cert.Proof.KernelIdeal

open Cert.KernelIdeal Cert.KernelIdeal.Gen
open Idealize.ShloMosaic Idealize.ShloMosaic.TcCoe

/-- The lane `here` marks is `12 j + q`. -/
theorem here_iff : ∀ (j : Fin 8) (q : Fin 12) (x : Fin 96),
    (IntOp.cmpi .eq (BitVec.ofNat 32 x.val) (Scalar.addi (Scalar.muli (BitVec.ofNat 32 j.val) 12#32) (BitVec.ofNat 32 q.val)) = 1#1) ↔ x.val = 12 * j.val + q.val := by
  decide +kernel

theorem laneV_apply (j : Fin 8) (q : Fin 12) (sc : Vec Ideal S32x96 .f32) (r : Fin 32) :
    laneV (F := Ideal) (BitVec.ofNat 32 j.val) (BitVec.ofNat 32 q.val) sc (ix2 r 0) = sc (ix2 r ⟨12 * j.val + q.val, by omega⟩) := by
  pointwise [laneV, here]
  rw [Finset.sum_eq_single (⟨12 * j.val + q.val, by omega⟩ : Fin 96)]
  · exact if_pos ((here_iff j q ⟨12 * j.val + q.val, by omega⟩).mpr rfl)
  · intro x _ hx
    exact if_neg (fun h => hx (Fin.ext ((here_iff j q x).mp h)))
  · intro h; exact absurd (Finset.mem_univ _) h

theorem mV_apply (j : Fin 8) (q : Fin 12) (msc : Vec Ideal S32x96 .f32) (g : Vec Ideal S32x128 .f32) (mc : Vec Ideal S32x128 .fp8e4m3) (r : Fin 32) (l : Fin 128) :
    mV (F := Ideal) (BitVec.ofNat 32 j.val) (BitVec.ofNat 32 q.val) msc g mc (ix2 r l)
      = mS (g (ix2 r l)) (mc (ix2 r l)) (msc (ix2 r ⟨12 * j.val + q.val, by omega⟩)) := by
  pointwise [mV, deqV]
  rw [laneV_apply]; rfl

theorem vV_apply (j : Fin 8) (q : Fin 12) (ssc : Vec Ideal S32x96 .f32) (g : Vec Ideal S32x128 .f32) (sc : Vec Ideal S32x128 .fp8e4m3) (r : Fin 32) (l : Fin 128) :
    vV (F := Ideal) (BitVec.ofNat 32 j.val) (BitVec.ofNat 32 q.val) ssc g sc (ix2 r l)
      = vS (g (ix2 r l)) (sc (ix2 r l)) (ssc (ix2 r ⟨12 * j.val + q.val, by omega⟩)) := by
  pointwise [vV, deqV]
  rw [laneV_apply]; rfl

theorem updV_apply (b1 b2 : Elt Ideal .f32) (mn vn : FVec Ideal S32x128 .f32) (r : Fin 32) (l : Fin 128) :
    updV (F := Ideal) b1 b2 mn vn (ix2 r l) = updS b1 b2 (mn (ix2 r l)) (vn (ix2 r l)) := by
  pointwise [updV]
  rfl

theorem wV_apply (w : Vec Ideal S32x128 .bf16) (u : FVec Ideal S32x128 .f32) (r : Fin 32) (l : Fin 128) :
    wV (F := Ideal) w u (ix2 r l) = (w (ix2 r l) + u (ix2 r l) : EReal) := by
  pointwise [wV]

theorem countV_apply (v : FVec Ideal S32x128 .f32) (r : Fin 32) :
    countV (F := Ideal) v (ix2 r 0) = countE (magS fun l => v (ix2 r l)) := by
  pointwise [countV]
  rfl

theorem scaleV_apply (v : FVec Ideal S32x128 .f32) (r : Fin 32) :
    scaleV (F := Ideal) v (ix2 r 0) = scaleK (magS fun l => v (ix2 r l)) := by
  pointwise [scaleV, expV, fieldV]
  rw [countV_apply]; rfl

theorem codesV_apply (v : FVec Ideal S32x128 .f32) (r : Fin 32) (l : Fin 128) :
    codesV (F := Ideal) v (ix2 r l) = codeS (v (ix2 r l)) (invK (magS fun l => v (ix2 r l))) := by
  pointwise [codesV, invV, expV, fieldV]
  rw [countV_apply]; rfl

theorem rowV_apply (j : Fin 8) (q : Fin 12) (sc : FVec Ideal S32x1 .f32) (row : FVec Ideal S32x96 .f32) (r : Fin 32) (l : Fin 96) :
    rowV (F := Ideal) (BitVec.ofNat 32 j.val) (BitVec.ofNat 32 q.val) sc row (ix2 r l)
      = if l.val = 12 * j.val + q.val then sc (ix2 r 0) else row (ix2 r l) := by
  pointwise [rowV, here]
  unfold Scalar.select
  exact if_congr (here_iff j q l) rfl rfl

end Cert.Proof.KernelIdeal

end
-- ==== Proof.Prob.lean ====
module

public import proofs.«01_k».proof.Proof.Scalar
public import Idealize.ShloMosaic.Lib.Pointwise

@[expose] public section

noncomputable section

/-! The whole problem over the extended reals: what each of the six results holds at row `r` and column `c` (scales: block `b`). -/

namespace Cert.Proof

open Idealize.ShloMosaic

/-- The gradient and the state, by row and column, and the two bias corrections. -/
structure Prob where
  (g w mc sc : ℕ → ℕ → EReal)
  (msc ssc : ℕ → ℕ → EReal)
  (b1 b2 : EReal)

namespace Prob
variable (P : Prob)

/-- The new first moment, -/
def m (r c : ℕ) : EReal := mS (P.g r c) (P.mc r c) (P.msc r (c / 128))
/-- the new second moment and its root, -/
def v (r c : ℕ) : EReal := vS (P.g r c) (P.sc r c) (P.ssc r (c / 128))
def root (r c : ℕ) : EReal := Ideal.sqrt (P.v r c)
/-- the update, the new weights. -/
def upd (r c : ℕ) : EReal := updS P.b1 P.b2 (P.m r c) (P.v r c)
def wn (r c : ℕ) : EReal := P.w r c + P.upd r c

end Prob

/-- The scale of block `b` of row `r` of a state, -/
def scaleN (f : ℕ → ℕ → EReal) (r b : ℕ) : EReal := scaleK (magS fun l => f r (128 * b + l.val))
/-- and its codes. -/
def codeN (f : ℕ → ℕ → EReal) (r c : ℕ) : EReal := codeS (f r c) (invK (magS fun l => f r (128 * (c / 128) + l.val)))

/-- A matrix by row and column. -/
def nat2 {a b : ℕ} (v : (⟨2, ![a, b]⟩ : Shape).Idx → EReal) (r c : ℕ) : EReal := if h : r < a ∧ c < b then v (ix2 ⟨r, h.1⟩ ⟨c, h.2⟩) else 0

theorem nat2_of {a b : ℕ} (v : (⟨2, ![a, b]⟩ : Shape).Idx → EReal) (i : (⟨2, ![a, b]⟩ : Shape).Idx) : nat2 v (i 0).val (i 1).val = v i := by
  unfold nat2
  rw [dif_pos ⟨(i 0).isLt, (i 1).isLt⟩]
  exact congrArg v (eq_ix2 i).symm

theorem nat2_eq {a b : ℕ} (v : (⟨2, ![a, b]⟩ : Shape).Idx → EReal) {i : (⟨2, ![a, b]⟩ : Shape).Idx} {r c : ℕ} (h0 : (i 0).val = r) (h1 : (i 1).val = c) :
    v i = nat2 v r c := by
  subst h0 h1; exact (nat2_of v i).symm

/-- The gradient's sum over the first `n` tokens. -/
def gradN (x xs dy dys : ℕ → ℕ → EReal) (n r c : ℕ) : EReal := ∑ k ∈ Finset.range n, (x k r * xs k 0) * (dy k c * dys k 0)

theorem gradN_zero (x xs dy dys : ℕ → ℕ → EReal) (r c : ℕ) : gradN x xs dy dys 0 r c = 0 := Finset.sum_range_zero _

theorem gradN_add (x xs dy dys : ℕ → ℕ → EReal) (n k r c : ℕ) :
    gradN x xs dy dys (n + k) r c = gradN x xs dy dys n r c + ∑ i : Fin k, (x (n + i.val) r * xs (n + i.val) 0) * (dy (n + i.val) c * dys (n + i.val) 0) := by
  unfold gradN
  rw [Finset.sum_range_add, Finset.sum_range (n := k)]

/-- The problem from its ten arguments. -/
def mkProb (x xs dy dys w mc msc sc ssc : ℕ → ℕ → EReal) (b1 b2 : EReal) : Prob where
  g := gradN x xs dy dys 24576
  w := w
  mc := mc
  sc := sc
  msc := msc
  ssc := ssc
  b1 := b1
  b2 := b2

/-- An array from its element at each row and column. -/
def arr2 {a b : ℕ} (f : ℕ → ℕ → EReal) : (⟨2, ![a, b]⟩ : Shape).Idx → EReal := fun I => f (I 0).val (I 1).val

theorem arr2_apply {a b : ℕ} (f : ℕ → ℕ → EReal) (I : (⟨2, ![a, b]⟩ : Shape).Idx) : arr2 f I = f (I 0).val (I 1).val := rfl

end Cert.Proof

end
-- ==== Proof.Tile.lean ====
module

public import proofs.«01_k».proof.Proof.Gen.KernelIdeal.Frame
public import proofs.«01_k».proof.Proof.Gen.KernelIdeal.Loops
public import proofs.«01_k».proof.Proof.Loop
public import Idealize.ShloMosaic.Adequacy
public import Idealize.ShloMosaic.Init
public import Idealize.ShloMosaic.Lib.Pipeline.ArrRel
public import proofs.«01_k».proof.Proof.Elem
public import proofs.«01_k».proof.Proof.Prob
public import Idealize.ShloMosaic.Lib.VecWindow

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

/-! The six outputs of a tile after its 24 trips, element by element, over the extended reals. -/

theorem trips24 : k0_t1_loop.trips = 24 := by decide

section Generic
variable {sig : RefSig} {κ : Kind} {sp : Space} {e : EltTy}

theorem readAt_tile (v : View sig κ sp S768x1536 e) (f : v.ty.Contents (Elt Ideal)) {k q : ℕ} (hk : k < 24) (hq : q < 12)
    (inb : ∀ a, (![32 * k, 128 * q] : Fin 2 → ℕ) a + S32x128.size a ≤ S768x1536.size a) (r : Fin 32) (l : Fin 128) :
    v.readAt (Elt Ideal) (Rect.unit (s := S768x1536) ![32 * k, 128 * q] S32x128.size inb).toLoadRect f (ix2 r l)
      = v.read (Elt Ideal) f (ix2 ⟨32 * k + r.val, by omega⟩ ⟨128 * q + l.val, by omega⟩) := by
  refine congrArg (v.read (Elt Ideal) f) (funext fun a => Fin.ext ?_)
  match a with
  | ⟨0, _⟩ => show 32 * k + 1 * r.val = 32 * k + r.val; omega
  | ⟨1, _⟩ => show 128 * q + 1 * l.val = 128 * q + l.val; omega

theorem readAt_row (v : View sig κ sp S768x96 e) (f : v.ty.Contents (Elt Ideal)) {k : ℕ} (hk : k < 24) {off : Fin 2 → ℕ} (h : off = ![32 * k, 0])
    (inb : ∀ a, off a + S32x96.size a ≤ S768x96.size a) (r : Fin 32) (l : Fin 96) :
    v.readAt (Elt Ideal) (Rect.unit (s := S768x96) off S32x96.size inb).toLoadRect f (ix2 r l)
      = v.read (Elt Ideal) f (ix2 ⟨32 * k + r.val, by omega⟩ l) := by
  subst h
  refine congrArg (v.read (Elt Ideal) f) (funext fun a => Fin.ext ?_)
  match a with
  | ⟨0, _⟩ => show 32 * k + 1 * r.val = 32 * k + r.val; omega
  | ⟨1, _⟩ => show 0 + 1 * l.val = l.val; omega

/-- A stored block of 32 rows from `32 k` and 128 columns from `128 q` that holds `g` of the rows and columns. -/
def Good (g : ℕ → ℕ → Elt Ideal e) (k : ℕ) (p : View.Piece (Elt Ideal) S768x1536 e) (q : ℕ) : Prop :=
  (∀ x : p.1.shape.Idx, p.2 x = g (p.1.emb x 0).val (p.1.emb x 1).val)
    ∧ ∀ I : S768x1536.Idx, I ∈ p.1.set ↔ (32 * k ≤ (I 0).val ∧ (I 0).val < 32 * k + 32) ∧ 128 * q ≤ (I 1).val ∧ (I 1).val < 128 * q + 128

theorem good_unit (g : ℕ → ℕ → Elt Ideal e) {k q : ℕ} {off : Fin 2 → ℕ} (h : off = ![32 * k, 128 * q])
    (inb : ∀ a, off a + S32x128.size a ≤ S768x1536.size a) (val : (Rect.unit (s := S768x1536) off S32x128.size inb).shape.Idx → Elt Ideal e)
    (hv : ∀ (r : Fin 32) (l : Fin 128), val (ix2 r l) = g (32 * k + r.val) (128 * q + l.val)) :
    Good g k ⟨Rect.unit (s := S768x1536) off S32x128.size inb, val⟩ q := by
  subst h
  constructor
  · intro x
    have e0 : ((Rect.unit (s := S768x1536) ![32 * k, 128 * q] S32x128.size inb).emb x 0).val = 32 * k + (x 0).val := ValueKit.rect_emb_unit_val _ _ _ _ _
    have e1 : ((Rect.unit (s := S768x1536) ![32 * k, 128 * q] S32x128.size inb).emb x 1).val = 128 * q + (x 1).val := ValueKit.rect_emb_unit_val _ _ _ _ _
    show val x = g ((Rect.unit (s := S768x1536) ![32 * k, 128 * q] S32x128.size inb).emb x 0).val ((Rect.unit (s := S768x1536) ![32 * k, 128 * q] S32x128.size inb).emb x 1).val
    rw [e0, e1, ← hv (x 0) (x 1)]
    exact congrArg val (eq_ix2 (n0 := 32) (n1 := 128) x)
  · intro I
    show I ∈ (Rect.unit (s := S768x1536) ![32 * k, 128 * q] S32x128.size inb).set ↔ _
    rw [Rect.mem_set_unit]
    constructor
    · intro h; exact ⟨h 0, h 1⟩
    · intro h a
      match a with
      | ⟨0, _⟩ => exact h.1
      | ⟨1, _⟩ => exact h.2

/-- The block columns a trip stores, last first. -/
abbrev cols : List ℕ := [11, 10, 9, 8, 7, 6, 5, 4, 3, 2, 1, 0]

theorem cols_get (q : ℕ) (hq : q < 12) : cols[11 - q]'(show 11 - q < 12 by omega) = q := by
  revert hq; revert q; decide

theorem good_step (v : View sig κ sp S768x1536 e) (f : v.ty.Contents (Elt Ideal)) (L : List (View.Piece (Elt Ideal) S768x1536 e)) (g : ℕ → ℕ → Elt Ideal e)
    (k : ℕ) (hL : List.Forall₂ (Good g k) L cols)
    (h : ∀ I : S768x1536.Idx, (I 0).val < 32 * k → v.read (Elt Ideal) f I = g (I 0).val (I 1).val) (I : S768x1536.Idx) (hI : (I 0).val < 32 * (k + 1)) :
    v.read (Elt Ideal) (v.writes (Elt Ideal) f L) I = g (I 0).val (I 1).val := by
  have hmem : ∀ p ∈ L, ∃ q, Good g k p q := fun p hp => by
    obtain ⟨n, hn, rfl⟩ := List.mem_iff_getElem.mp hp
    exact ⟨_, List.Forall₂.get hL hn (hL.length_eq ▸ hn)⟩
  by_cases hk : (I 0).val < 32 * k
  · rw [View.read_writes_apply_of_forall_not_mem]
    · exact h I hk
    · intro p hp hm
      obtain ⟨q, hq⟩ := hmem p hp
      have := (hq.2 I).mp hm
      omega
  · refine View.read_writes_apply_of_pieces v f (fun I => g (I 0).val (I 1).val) L (fun p hp x => ?_) I ?_
    · obtain ⟨q, hq⟩ := hmem p hp
      exact hq.1 x
    · have h1 : (I 1).val < 1536 := (I 1).isLt
      have hc : ∃ n, ∃ hn : n < cols.length, cols[n] = (I 1).val / 128 := by
        have hq : (I 1).val / 128 < 12 := by omega
        refine ⟨11 - (I 1).val / 128, by show _ < 12; omega, ?_⟩
        exact cols_get _ hq
      obtain ⟨n, hn, e⟩ := hc
      have hg := List.Forall₂.get hL (hL.length_eq ▸ hn) hn
      refine ⟨_, List.getElem_mem (hL.length_eq ▸ hn), (hg.2 I).mpr ?_⟩
      have e' : cols.get ⟨n, hn⟩ = (I 1).val / 128 := e
      rw [e']
      omega

/-- After the 24 trips the whole tile is `g`. -/
theorem tile_good (v : View sig κ sp S768x1536 e) (it : ℕ → v.ty.Contents (Elt Ideal)) (L : Fin k0_t1_loop.trips → List (View.Piece (Elt Ideal) S768x1536 e))
    (hs : ∀ k : Fin k0_t1_loop.trips, it (k.val + 1) = v.writes (Elt Ideal) (it k.val) (L k)) (g : ℕ → ℕ → Elt Ideal e)
    (hL : ∀ k, List.Forall₂ (Good g k.val) (L k) cols) (I : S768x1536.Idx) : v.read (Elt Ideal) (it 24) I = g (I 0).val (I 1).val := by
  have key : ∀ n ≤ 24, ∀ I : S768x1536.Idx, (I 0).val < 32 * n → v.read (Elt Ideal) (it n) I = g (I 0).val (I 1).val := by
    intro n
    induction n with
    | zero => intro _ I h; omega
    | succ n ih =>
      intro hn I h
      have hk : n < k0_t1_loop.trips := by rw [trips24]; omega
      rw [hs ⟨n, hk⟩]
      exact good_step v _ _ g n (hL ⟨n, hk⟩) (ih (by omega)) I h
  exact key 24 le_rfl I (by have : (I 0).val < 768 := (I 0).isLt; omega)

/-- A row group of scales in which the lanes `12 j … 12 j + n - 1` are replaced. -/
def Row (j : ℕ) (s : Fin 32 → ℕ → EReal) (old : Fin 32 → Fin 96 → EReal) (n : ℕ) (row : FVec Ideal S32x96 .f32) : Prop :=
  ∀ (r : Fin 32) (l : Fin 96), row (ix2 r l) = if 12 * j ≤ l.val ∧ l.val < 12 * j + n then s r l.val else old r l

theorem row_step (j : Fin 8) (f : ℕ → ℕ → EReal) (R : Fin 32 → ℕ) (old : Fin 32 → Fin 96 → EReal) (q : Fin 12) (row : FVec Ideal S32x96 .f32)
    (X : FVec Ideal S32x128 .f32) (hX : ∀ (r : Fin 32) (l : Fin 128), X (ix2 r l) = f (R r) (1536 * j.val + 128 * q.val + l.val))
    (h : Row j.val (fun r b => scaleN f (R r) b) old q.val row) :
    Row j.val (fun r b => scaleN f (R r) b) old (q.val + 1) (rowV (F := Ideal) (BitVec.ofNat 32 j.val) (BitVec.ofNat 32 q.val) (scaleV X) row) := by
  intro r l
  rw [rowV_apply, scaleV_apply, h r l]
  by_cases e : l.val = 12 * j.val + q.val
  · rw [if_pos e, if_pos (by omega)]
    unfold scaleN
    congr 2
    funext x
    rw [hX, e]
    congr 1; omega
  · rw [if_neg e]
    exact if_congr (by omega) rfl rfl

/-- After the 24 trips a tile of scales has its twelve lanes replaced. -/
theorem tile_row (v : View sig κ sp S768x96 .f32) (it : ℕ → v.ty.Contents (Elt Ideal)) (j : ℕ) (s : ℕ → ℕ → EReal)
    (V : Fin k0_t1_loop.trips → FVec Ideal S32x96 .f32) (off : Fin k0_t1_loop.trips → Fin 2 → ℕ) (hoff : ∀ k, off k = ![32 * k.val, 0])
    (inb : ∀ k a, off k a + S32x96.size a ≤ S768x96.size a)
    (hs : ∀ k : Fin k0_t1_loop.trips, it (k.val + 1) = v.writes (Elt Ideal) (it k.val) [⟨Rect.unit (s := S768x96) (off k) S32x96.size (inb k), V k⟩])
    (hV : ∀ (k : Fin k0_t1_loop.trips) (hk : k.val < 24), Row j (fun r b => s (32 * k.val + r.val) b) (fun r l => v.read (Elt Ideal) (it k.val) (ix2 ⟨32 * k.val + r.val, by omega⟩ l)) 12 (V k))
    (r : Fin 768) (l : Fin 96) :
    v.read (Elt Ideal) (it 24) (ix2 r l) = if 12 * j ≤ l.val ∧ l.val < 12 * j + 12 then s r.val l.val else v.read (Elt Ideal) (it 0) (ix2 r l) := by
  have key : ∀ n ≤ 24, ∀ (r : Fin 768) (l : Fin 96), v.read (Elt Ideal) (it n) (ix2 r l)
      = if r.val < 32 * n ∧ 12 * j ≤ l.val ∧ l.val < 12 * j + 12 then s r.val l.val else v.read (Elt Ideal) (it 0) (ix2 r l) := by
    intro n
    induction n with
    | zero => intro _ r l; rw [if_neg (by omega)]
    | succ n ih =>
      intro hn r l
      have hk : n < k0_t1_loop.trips := by rw [trips24]; omega
      rw [hs ⟨n, hk⟩]
      by_cases hr : 32 * n ≤ r.val ∧ r.val < 32 * n + 32
      · have hx : (ix2 r l : S768x96.Idx) = (Rect.unit (s := S768x96) (off ⟨n, hk⟩) S32x96.size (inb ⟨n, hk⟩)).emb (ix2 (⟨r.val - 32 * n, by omega⟩ : Fin 32) l) := by
          funext a
          refine Fin.ext (Eq.trans ?_ (ValueKit.rect_emb_unit_val _ _ _ _ _).symm)
          match a with
          | ⟨0, _⟩ =>
            show r.val = off ⟨n, hk⟩ 0 + (r.val - 32 * n)
            have e0 : off ⟨n, hk⟩ 0 = 32 * n := congrFun (hoff ⟨n, hk⟩) 0
            omega
          | ⟨1, _⟩ =>
            show l.val = off ⟨n, hk⟩ 1 + l.val
            have e1 : off ⟨n, hk⟩ 1 = 0 := congrFun (hoff ⟨n, hk⟩) 1
            omega
        have e := View.read_slice_write_emb (Val := Elt Ideal) (v := v) (Rect.unit (s := S768x96) (off ⟨n, hk⟩) S32x96.size (inb ⟨n, hk⟩)) (it n) (V ⟨n, hk⟩)
          (Finset.mem_univ (ix2 (⟨r.val - 32 * n, by omega⟩ : Fin 32) l))
        rw [← hx] at e
        refine e.trans ((hV ⟨n, hk⟩ (show n < 24 by omega) ⟨r.val - 32 * n, by omega⟩ l).trans ?_)
        have er : 32 * n + (r.val - 32 * n) = r.val := by omega
        simp only [er]
        by_cases hl : 12 * j ≤ l.val ∧ l.val < 12 * j + 12
        · rw [if_pos hl, if_pos (by omega)]
        · rw [if_neg hl, if_neg (by omega), ih (by omega), if_neg (by omega)]
      · rw [View.read_writes_apply_of_forall_not_mem, ih (by omega)]
        · exact if_congr (by omega) rfl rfl
        · intro p hp hm
          rw [List.mem_singleton] at hp
          subst hp
          have h0 := (Rect.mem_set_unit (s := S768x96) (off := off ⟨n, hk⟩) (size := S32x96.size) (inb := inb ⟨n, hk⟩)).mp hm 0
          have e0 : off ⟨n, hk⟩ 0 = 32 * n := congrFun (hoff ⟨n, hk⟩) 0
          have h1 : off ⟨n, hk⟩ 0 ≤ r.val ∧ r.val < off ⟨n, hk⟩ 0 + 32 := h0
          omega
  rw [key 24 le_rfl]
  exact if_congr (by omega) rfl rfl

end Generic

section Tile

variable (c : Dev nD) (i : grid0.Coords)
  (arg8 : Memref sig .tc .vmem S768x1536 .bf16)
  (arg9 : Memref sig .tc .vmem S768x1536 .fp8e4m3)
  (arg10 : Memref sig .tc .vmem S768x96 .f32)
  (arg11 : Memref sig .tc .vmem S768x1536 .fp8e4m3)
  (arg12 : Memref sig .tc .vmem S768x96 .f32)
  (arg13 : Memref sig .tc .vmem S768x1536 .bf16)
  (arg14 : Memref sig .tc .vmem S768x1536 .f32)
  (arg15 : Memref sig .tc .vmem S768x1536 .fp8e4m3)
  (arg16 : Memref sig .tc .vmem S768x96 .f32)
  (arg17 : Memref sig .tc .vmem S768x1536 .fp8e4m3)
  (arg18 : Memref sig .tc .vmem S768x96 .f32)
  (arg19 : Memref sig .tc .vmem S768x1536 .f32)
  (k0_h2 : k0_cond2 i = 1#1) (v28 v29 : Elt Ideal .f32)
  (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ))) (f17 : Buf (Elt Ideal) (arg17.view.loc (c : Thread nD τ))) (f18 : Buf (Elt Ideal) (arg18.view.loc (c : Thread nD τ))) (f19 : Buf (Elt Ideal) (arg19.view.loc (c : Thread nD τ)))
  (j : Fin 8) (r0 : ℕ) (P : Prob)

/-- A tile whose row `r` and column `c` are row `r0 + r` and column `1536 j + c` of the problem. -/
structure IsTile : Prop where
  h8 : ∀ (r : Fin 768) (l : Fin 1536), arg8.view.read (Elt Ideal) f8 (ix2 r l) = P.w (r0 + r.val) (1536 * j.val + l.val)
  h9 : ∀ (r : Fin 768) (l : Fin 1536), arg9.view.read (Elt Ideal) f9 (ix2 r l) = P.mc (r0 + r.val) (1536 * j.val + l.val)
  h10 : ∀ (r : Fin 768) (l : Fin 96), arg10.view.read (Elt Ideal) f10 (ix2 r l) = P.msc (r0 + r.val) l.val
  h11 : ∀ (r : Fin 768) (l : Fin 1536), arg11.view.read (Elt Ideal) f11 (ix2 r l) = P.sc (r0 + r.val) (1536 * j.val + l.val)
  h12 : ∀ (r : Fin 768) (l : Fin 96), arg12.view.read (Elt Ideal) f12 (ix2 r l) = P.ssc (r0 + r.val) l.val
  h19 : ∀ (r : Fin 768) (l : Fin 1536), arg19.view.read (Elt Ideal) f19 (ix2 r l) = P.g (r0 + r.val) (1536 * j.val + l.val)
  hb1 : v28 = P.b1
  hb2 : v29 = P.b2

variable {c i arg8 arg9 arg10 arg11 arg12 arg19 k0_h2 v28 v29 f8 f9 f10 f11 f12 f19 j r0 P}
  (H : IsTile c arg8 arg9 arg10 arg11 arg12 arg19 v28 v29 f8 f9 f10 f11 f12 f19 j r0 P)
include H

theorem mAt_apply (k : Fin k0_t1_loop.trips) (q : Fin 12) {off : Fin 2 → ℕ} (h : off = ![32 * k.val, 128 * q.val])
    (inb : ∀ a, off a + S32x128.size a ≤ S768x1536.size a) (r : Fin 32) (l : Fin 128) :
    mAt c i arg9 arg10 arg19 (BitVec.ofNat 32 j.val) k0_h2 k f9 f10 f19 (BitVec.ofNat 32 q.val) off inb (ix2 r l)
      = P.m (r0 + (32 * k.val + r.val)) (1536 * j.val + (128 * q.val + l.val)) := by
  have hk : k.val < 24 := trips24 ▸ k.isLt
  subst h
  unfold mAt
  rw [mV_apply, readAt_tile _ _ hk q.isLt, readAt_tile _ _ hk q.isLt, readAt_row _ _ hk (k0_off1_eq k), H.h9, H.h10, H.h19]
  unfold Prob.m
  rw [show (1536 * j.val + (128 * q.val + l.val)) / 128 = 12 * j.val + q.val by omega]

theorem vAt_apply (k : Fin k0_t1_loop.trips) (q : Fin 12) {off : Fin 2 → ℕ} (h : off = ![32 * k.val, 128 * q.val])
    (inb : ∀ a, off a + S32x128.size a ≤ S768x1536.size a) (r : Fin 32) (l : Fin 128) :
    vAt c i arg11 arg12 arg19 (BitVec.ofNat 32 j.val) k0_h2 k f11 f12 f19 (BitVec.ofNat 32 q.val) off inb (ix2 r l)
      = P.v (r0 + (32 * k.val + r.val)) (1536 * j.val + (128 * q.val + l.val)) := by
  have hk : k.val < 24 := trips24 ▸ k.isLt
  subst h
  unfold vAt
  rw [vV_apply, readAt_tile _ _ hk q.isLt, readAt_tile _ _ hk q.isLt, readAt_row _ _ hk (k0_off1_eq k), H.h11, H.h12, H.h19]
  unfold Prob.v
  rw [show (1536 * j.val + (128 * q.val + l.val)) / 128 = 12 * j.val + q.val by omega]

theorem rootAt_apply (k : Fin k0_t1_loop.trips) (q : Fin 12) {off : Fin 2 → ℕ} (h : off = ![32 * k.val, 128 * q.val])
    (inb : ∀ a, off a + S32x128.size a ≤ S768x1536.size a) (r : Fin 32) (l : Fin 128) :
    (sqrt (vAt c i arg11 arg12 arg19 (BitVec.ofNat 32 j.val) k0_h2 k f11 f12 f19 (BitVec.ofNat 32 q.val) off inb) : FVec Ideal S32x128 .f32) (ix2 r l)
      = P.root (r0 + (32 * k.val + r.val)) (1536 * j.val + (128 * q.val + l.val)) := by
  show Ideal.sqrt _ = Ideal.sqrt _
  rw [vAt_apply H k q h]

theorem updAt_apply (k : Fin k0_t1_loop.trips) (q : Fin 12) {off : Fin 2 → ℕ} (h : off = ![32 * k.val, 128 * q.val])
    (inb : ∀ a, off a + S32x128.size a ≤ S768x1536.size a) (r : Fin 32) (l : Fin 128) :
    updAt c i arg9 arg10 arg11 arg12 arg19 (BitVec.ofNat 32 j.val) k0_h2 v28 v29 k f9 f10 f11 f12 f19 (BitVec.ofNat 32 q.val) off inb (ix2 r l)
      = P.upd (r0 + (32 * k.val + r.val)) (1536 * j.val + (128 * q.val + l.val)) := by
  unfold updAt
  rw [updV_apply, mAt_apply H k q h, vAt_apply H k q h, H.hb1, H.hb2]
  rfl

theorem wAt_apply (k : Fin k0_t1_loop.trips) (q : Fin 12) {off : Fin 2 → ℕ} (h : off = ![32 * k.val, 128 * q.val])
    (inb : ∀ a, off a + S32x128.size a ≤ S768x1536.size a) (r : Fin 32) (l : Fin 128) :
    wAt c i arg8 arg9 arg10 arg11 arg12 arg19 (BitVec.ofNat 32 j.val) k0_h2 v28 v29 k f8 f9 f10 f11 f12 f19 (BitVec.ofNat 32 q.val) off inb (ix2 r l)
      = P.wn (r0 + (32 * k.val + r.val)) (1536 * j.val + (128 * q.val + l.val)) := by
  have hk : k.val < 24 := trips24 ▸ k.isLt
  unfold wAt
  rw [wV_apply, updAt_apply H k q h]
  subst h
  rw [readAt_tile _ _ hk q.isLt, H.h8]
  rfl

omit H in
theorem codes_of (f : ℕ → ℕ → EReal) (R : Fin 32 → ℕ) (q : Fin 12) (X : FVec Ideal S32x128 .f32)
    (hX : ∀ (r : Fin 32) (l : Fin 128), X (ix2 r l) = f (R r) (1536 * j.val + (128 * q.val + l.val))) (r : Fin 32) (l : Fin 128) :
    codesV X (ix2 r l) = codeN f (R r) (1536 * j.val + (128 * q.val + l.val)) := by
  rw [codesV_apply, hX]
  unfold codeN
  congr 3
  funext x
  rw [hX]
  congr 1; omega

/-- The weights after the trips. -/
theorem it13_apply (I : S768x1536.Idx) : arg13.view.read (Elt Ideal) (it13 c i arg8 arg9 arg10 arg11 arg12 arg13 arg19 (BitVec.ofNat 32 j.val) k0_h2 v28 v29 f8 f9 f10 f11 f12 f13 f19 24) I = (fun r l => P.wn (r0 + r) (1536 * j.val + l)) (I 0).val (I 1).val := by
  refine tile_good arg13.view (fun n => (it13 c i arg8 arg9 arg10 arg11 arg12 arg13 arg19 (BitVec.ofNat 32 j.val) k0_h2 v28 v29 f8 f9 f10 f11 f12 f13 f19 n)) (fun k => (st13 c i arg8 arg9 arg10 arg11 arg12 arg19 (BitVec.ofNat 32 j.val) k0_h2 v28 v29 k f8 f9 f10 f11 f12 f19)) (fun k => (it13_succ c i arg8 arg9 arg10 arg11 arg12 arg13 arg19 (BitVec.ofNat 32 j.val) k0_h2 v28 v29 f8 f9 f10 f11 f12 f13 f19 k)) (fun r l => P.wn (r0 + r) (1536 * j.val + l)) (fun k => ?_) I
  have G : ∀ (q : Fin 12) {off : Fin 2 → ℕ} (h : off = ![32 * k.val, 128 * q.val]) (inb : ∀ a, off a + S32x128.size a ≤ S768x1536.size a),
      Good (e := .bf16) (fun r l => P.wn (r0 + r) (1536 * j.val + l)) k.val ⟨Rect.unit (s := S768x1536) off S32x128.size inb, (wAt c i arg8 arg9 arg10 arg11 arg12 arg19 (BitVec.ofNat 32 j.val) k0_h2 v28 v29 k f8 f9 f10 f11 f12 f19 (BitVec.ofNat 32 q.val) off inb)⟩ q.val :=
    fun q off h inb => by
      have hv : ∀ (r : Fin 32) (l : Fin 128), (wAt c i arg8 arg9 arg10 arg11 arg12 arg19 (BitVec.ofNat 32 j.val) k0_h2 v28 v29 k f8 f9 f10 f11 f12 f19 (BitVec.ofNat 32 q.val) off inb) (ix2 r l) = (fun r l => P.wn (r0 + r) (1536 * j.val + l)) (32 * k.val + r.val) (128 * q.val + l.val) := fun r l => wAt_apply H k q h _ r l
      exact good_unit (e := .bf16) (fun r l => P.wn (r0 + r) (1536 * j.val + l)) h inb (wAt c i arg8 arg9 arg10 arg11 arg12 arg19 (BitVec.ofNat 32 j.val) k0_h2 v28 v29 k f8 f9 f10 f11 f12 f19 (BitVec.ofNat 32 q.val) off inb) hv
  exact .cons (G 11 (k0_off13_eq k) _) <| .cons (G 10 (k0_off12_eq k) _) <| .cons (G 9 (k0_off11_eq k) _) <| .cons (G 8 (k0_off10_eq k) _) <| .cons (G 7 (k0_off9_eq k) _) <| .cons (G 6 (k0_off8_eq k) _) <| .cons (G 5 (k0_off7_eq k) _) <| .cons (G 4 (k0_off6_eq k) _) <| .cons (G 3 (k0_off5_eq k) _) <| .cons (G 2 (k0_off4_eq k) _) <| .cons (G 1 (k0_off3_eq k) _) <| .cons (G 0 (k0_off2_eq k) _) .nil

/-- The updates after the trips. -/
theorem it14_apply (I : S768x1536.Idx) : arg14.view.read (Elt Ideal) (it14 c i arg9 arg10 arg11 arg12 arg14 arg19 (BitVec.ofNat 32 j.val) k0_h2 v28 v29 f9 f10 f11 f12 f14 f19 24) I = (fun r l => P.upd (r0 + r) (1536 * j.val + l)) (I 0).val (I 1).val := by
  refine tile_good arg14.view (fun n => (it14 c i arg9 arg10 arg11 arg12 arg14 arg19 (BitVec.ofNat 32 j.val) k0_h2 v28 v29 f9 f10 f11 f12 f14 f19 n)) (fun k => (st14 c i arg9 arg10 arg11 arg12 arg19 (BitVec.ofNat 32 j.val) k0_h2 v28 v29 k f9 f10 f11 f12 f19)) (fun k => (it14_succ c i arg9 arg10 arg11 arg12 arg14 arg19 (BitVec.ofNat 32 j.val) k0_h2 v28 v29 f9 f10 f11 f12 f14 f19 k)) (fun r l => P.upd (r0 + r) (1536 * j.val + l)) (fun k => ?_) I
  have G : ∀ (q : Fin 12) {off : Fin 2 → ℕ} (h : off = ![32 * k.val, 128 * q.val]) (inb : ∀ a, off a + S32x128.size a ≤ S768x1536.size a),
      Good (e := .f32) (fun r l => P.upd (r0 + r) (1536 * j.val + l)) k.val ⟨Rect.unit (s := S768x1536) off S32x128.size inb, (updAt c i arg9 arg10 arg11 arg12 arg19 (BitVec.ofNat 32 j.val) k0_h2 v28 v29 k f9 f10 f11 f12 f19 (BitVec.ofNat 32 q.val) off inb)⟩ q.val :=
    fun q off h inb => by
      have hv : ∀ (r : Fin 32) (l : Fin 128), (updAt c i arg9 arg10 arg11 arg12 arg19 (BitVec.ofNat 32 j.val) k0_h2 v28 v29 k f9 f10 f11 f12 f19 (BitVec.ofNat 32 q.val) off inb) (ix2 r l) = (fun r l => P.upd (r0 + r) (1536 * j.val + l)) (32 * k.val + r.val) (128 * q.val + l.val) := fun r l => updAt_apply H k q h _ r l
      exact good_unit (e := .f32) (fun r l => P.upd (r0 + r) (1536 * j.val + l)) h inb (updAt c i arg9 arg10 arg11 arg12 arg19 (BitVec.ofNat 32 j.val) k0_h2 v28 v29 k f9 f10 f11 f12 f19 (BitVec.ofNat 32 q.val) off inb) hv
  exact .cons (G 11 (k0_off13_eq k) _) <| .cons (G 10 (k0_off12_eq k) _) <| .cons (G 9 (k0_off11_eq k) _) <| .cons (G 8 (k0_off10_eq k) _) <| .cons (G 7 (k0_off9_eq k) _) <| .cons (G 6 (k0_off8_eq k) _) <| .cons (G 5 (k0_off7_eq k) _) <| .cons (G 4 (k0_off6_eq k) _) <| .cons (G 3 (k0_off5_eq k) _) <| .cons (G 2 (k0_off4_eq k) _) <| .cons (G 1 (k0_off3_eq k) _) <| .cons (G 0 (k0_off2_eq k) _) .nil

/-- The first moment's codes after the trips. -/
theorem it15_apply (I : S768x1536.Idx) : arg15.view.read (Elt Ideal) (it15 c i arg9 arg10 arg15 arg19 (BitVec.ofNat 32 j.val) k0_h2 f9 f10 f15 f19 24) I = (fun r l => codeN P.m (r0 + r) (1536 * j.val + l)) (I 0).val (I 1).val := by
  refine tile_good arg15.view (fun n => (it15 c i arg9 arg10 arg15 arg19 (BitVec.ofNat 32 j.val) k0_h2 f9 f10 f15 f19 n)) (fun k => (st15 c i arg9 arg10 arg19 (BitVec.ofNat 32 j.val) k0_h2 k f9 f10 f19)) (fun k => (it15_succ c i arg9 arg10 arg15 arg19 (BitVec.ofNat 32 j.val) k0_h2 f9 f10 f15 f19 k)) (fun r l => codeN P.m (r0 + r) (1536 * j.val + l)) (fun k => ?_) I
  have G : ∀ (q : Fin 12) {off : Fin 2 → ℕ} (h : off = ![32 * k.val, 128 * q.val]) (inb : ∀ a, off a + S32x128.size a ≤ S768x1536.size a),
      Good (e := .fp8e4m3) (fun r l => codeN P.m (r0 + r) (1536 * j.val + l)) k.val ⟨Rect.unit (s := S768x1536) off S32x128.size inb, (codesV (mAt c i arg9 arg10 arg19 (BitVec.ofNat 32 j.val) k0_h2 k f9 f10 f19 (BitVec.ofNat 32 q.val) off inb))⟩ q.val :=
    fun q off h inb => by
      have hv : ∀ (r : Fin 32) (l : Fin 128), (codesV (mAt c i arg9 arg10 arg19 (BitVec.ofNat 32 j.val) k0_h2 k f9 f10 f19 (BitVec.ofNat 32 q.val) off inb)) (ix2 r l) = (fun r l => codeN P.m (r0 + r) (1536 * j.val + l)) (32 * k.val + r.val) (128 * q.val + l.val) := fun r l => codes_of P.m (fun r => r0 + (32 * k.val + r.val)) q _ (mAt_apply H k q h _) r l
      exact good_unit (e := .fp8e4m3) (fun r l => codeN P.m (r0 + r) (1536 * j.val + l)) h inb (codesV (mAt c i arg9 arg10 arg19 (BitVec.ofNat 32 j.val) k0_h2 k f9 f10 f19 (BitVec.ofNat 32 q.val) off inb)) hv
  exact .cons (G 11 (k0_off13_eq k) _) <| .cons (G 10 (k0_off12_eq k) _) <| .cons (G 9 (k0_off11_eq k) _) <| .cons (G 8 (k0_off10_eq k) _) <| .cons (G 7 (k0_off9_eq k) _) <| .cons (G 6 (k0_off8_eq k) _) <| .cons (G 5 (k0_off7_eq k) _) <| .cons (G 4 (k0_off6_eq k) _) <| .cons (G 3 (k0_off5_eq k) _) <| .cons (G 2 (k0_off4_eq k) _) <| .cons (G 1 (k0_off3_eq k) _) <| .cons (G 0 (k0_off2_eq k) _) .nil

/-- The second moment's codes after the trips. -/
theorem it17_apply (I : S768x1536.Idx) : arg17.view.read (Elt Ideal) (it17 c i arg11 arg12 arg17 arg19 (BitVec.ofNat 32 j.val) k0_h2 f11 f12 f17 f19 24) I = (fun r l => codeN P.root (r0 + r) (1536 * j.val + l)) (I 0).val (I 1).val := by
  refine tile_good arg17.view (fun n => (it17 c i arg11 arg12 arg17 arg19 (BitVec.ofNat 32 j.val) k0_h2 f11 f12 f17 f19 n)) (fun k => (st17 c i arg11 arg12 arg19 (BitVec.ofNat 32 j.val) k0_h2 k f11 f12 f19)) (fun k => (it17_succ c i arg11 arg12 arg17 arg19 (BitVec.ofNat 32 j.val) k0_h2 f11 f12 f17 f19 k)) (fun r l => codeN P.root (r0 + r) (1536 * j.val + l)) (fun k => ?_) I
  have G : ∀ (q : Fin 12) {off : Fin 2 → ℕ} (h : off = ![32 * k.val, 128 * q.val]) (inb : ∀ a, off a + S32x128.size a ≤ S768x1536.size a),
      Good (e := .fp8e4m3) (fun r l => codeN P.root (r0 + r) (1536 * j.val + l)) k.val ⟨Rect.unit (s := S768x1536) off S32x128.size inb, (codesV (sqrt (vAt c i arg11 arg12 arg19 (BitVec.ofNat 32 j.val) k0_h2 k f11 f12 f19 (BitVec.ofNat 32 q.val) off inb)))⟩ q.val :=
    fun q off h inb => by
      have hv : ∀ (r : Fin 32) (l : Fin 128), (codesV (sqrt (vAt c i arg11 arg12 arg19 (BitVec.ofNat 32 j.val) k0_h2 k f11 f12 f19 (BitVec.ofNat 32 q.val) off inb))) (ix2 r l) = (fun r l => codeN P.root (r0 + r) (1536 * j.val + l)) (32 * k.val + r.val) (128 * q.val + l.val) := fun r l => codes_of P.root (fun r => r0 + (32 * k.val + r.val)) q _ (rootAt_apply H k q h _) r l
      exact good_unit (e := .fp8e4m3) (fun r l => codeN P.root (r0 + r) (1536 * j.val + l)) h inb (codesV (sqrt (vAt c i arg11 arg12 arg19 (BitVec.ofNat 32 j.val) k0_h2 k f11 f12 f19 (BitVec.ofNat 32 q.val) off inb))) hv
  exact .cons (G 11 (k0_off13_eq k) _) <| .cons (G 10 (k0_off12_eq k) _) <| .cons (G 9 (k0_off11_eq k) _) <| .cons (G 8 (k0_off10_eq k) _) <| .cons (G 7 (k0_off9_eq k) _) <| .cons (G 6 (k0_off8_eq k) _) <| .cons (G 5 (k0_off7_eq k) _) <| .cons (G 4 (k0_off6_eq k) _) <| .cons (G 3 (k0_off5_eq k) _) <| .cons (G 2 (k0_off4_eq k) _) <| .cons (G 1 (k0_off3_eq k) _) <| .cons (G 0 (k0_off2_eq k) _) .nil

/-- The first moment's scales after the trips. -/
theorem it16_apply (r : Fin 768) (l : Fin 96) : arg16.view.read (Elt Ideal) (it16 c i arg9 arg10 arg16 arg19 (BitVec.ofNat 32 j.val) k0_h2 f9 f10 f16 f19 24) (ix2 r l)
    = if 12 * j.val ≤ l.val ∧ l.val < 12 * j.val + 12 then scaleN P.m (r0 + r.val) l.val else arg16.view.read (Elt Ideal) f16 (ix2 r l) := by
  refine tile_row arg16.view (fun n => (it16 c i arg9 arg10 arg16 arg19 (BitVec.ofNat 32 j.val) k0_h2 f9 f10 f16 f19 n)) j.val (fun r b => scaleN P.m (r0 + r) b) _ _ k0_off1_eq _ (fun k => (it16_succ c i arg9 arg10 arg16 arg19 (BitVec.ofNat 32 j.val) k0_h2 f9 f10 f16 f19 k)) (fun k hk => ?_) r l
  generalize (it16 c i arg9 arg10 arg16 arg19 (BitVec.ofNat 32 j.val) k0_h2 f9 f10 f16 f19 k.val) = f16'
  have base : Row j.val (fun r b => scaleN P.m (r0 + (32 * k.val + r.val)) b) (fun r l => arg16.view.read (Elt Ideal) f16' (ix2 ⟨32 * k.val + r.val, by omega⟩ l)) 0
      (shapeCast S32x96 (arg16.view.readAt (Elt Ideal) (Rect.unit (s := S768x96) (k0_off1 k) S32x96.size (k0_off1_inb i k k0_h2)).toLoadRect f16') shapeCasts_S32x96_S32x96) := by
    intro r l
    rw [if_neg (by omega)]
    exact (congrFun (shapeCast_self (s := S32x96) _ _) (ix2 r l)).trans (readAt_row _ _ hk (k0_off1_eq k) _ r l)
  have S : ∀ (q : Fin 12) {off : Fin 2 → ℕ} (h : off = ![32 * k.val, 128 * q.val]) (inb : ∀ a, off a + S32x128.size a ≤ S768x1536.size a) (row : FVec Ideal S32x96 .f32),
      Row j.val (fun r b => scaleN P.m (r0 + (32 * k.val + r.val)) b) (fun r l => arg16.view.read (Elt Ideal) f16' (ix2 ⟨32 * k.val + r.val, by omega⟩ l)) q.val row →
      Row j.val (fun r b => scaleN P.m (r0 + (32 * k.val + r.val)) b) (fun r l => arg16.view.read (Elt Ideal) f16' (ix2 ⟨32 * k.val + r.val, by omega⟩ l)) (q.val + 1)
        (rowV (F := Ideal) (BitVec.ofNat 32 j.val) (BitVec.ofNat 32 q.val) (scaleV (mAt c i arg9 arg10 arg19 (BitVec.ofNat 32 j.val) k0_h2 k f9 f10 f19 (BitVec.ofNat 32 q.val) off inb)) row) :=
    fun q off h inb row hr => row_step j P.m (fun r => r0 + (32 * k.val + r.val)) _ q row _ (fun r l => (mAt_apply H k q h inb r l).trans (by rw [Nat.add_assoc])) hr
  exact (S 11 (k0_off13_eq k) _ _ (S 10 (k0_off12_eq k) _ _ (S 9 (k0_off11_eq k) _ _ (S 8 (k0_off10_eq k) _ _ (S 7 (k0_off9_eq k) _ _ (S 6 (k0_off8_eq k) _ _ (S 5 (k0_off7_eq k) _ _ (S 4 (k0_off6_eq k) _ _ (S 3 (k0_off5_eq k) _ _ (S 2 (k0_off4_eq k) _ _ (S 1 (k0_off3_eq k) _ _ (S 0 (k0_off2_eq k) _ _ base))))))))))))

/-- The second moment's scales after the trips. -/
theorem it18_apply (r : Fin 768) (l : Fin 96) : arg18.view.read (Elt Ideal) (it18 c i arg11 arg12 arg18 arg19 (BitVec.ofNat 32 j.val) k0_h2 f11 f12 f18 f19 24) (ix2 r l)
    = if 12 * j.val ≤ l.val ∧ l.val < 12 * j.val + 12 then scaleN P.root (r0 + r.val) l.val else arg18.view.read (Elt Ideal) f18 (ix2 r l) := by
  refine tile_row arg18.view (fun n => (it18 c i arg11 arg12 arg18 arg19 (BitVec.ofNat 32 j.val) k0_h2 f11 f12 f18 f19 n)) j.val (fun r b => scaleN P.root (r0 + r) b) _ _ k0_off1_eq _ (fun k => (it18_succ c i arg11 arg12 arg18 arg19 (BitVec.ofNat 32 j.val) k0_h2 f11 f12 f18 f19 k)) (fun k hk => ?_) r l
  generalize (it18 c i arg11 arg12 arg18 arg19 (BitVec.ofNat 32 j.val) k0_h2 f11 f12 f18 f19 k.val) = f18'
  have base : Row j.val (fun r b => scaleN P.root (r0 + (32 * k.val + r.val)) b) (fun r l => arg18.view.read (Elt Ideal) f18' (ix2 ⟨32 * k.val + r.val, by omega⟩ l)) 0
      (shapeCast S32x96 (arg18.view.readAt (Elt Ideal) (Rect.unit (s := S768x96) (k0_off1 k) S32x96.size (k0_off1_inb i k k0_h2)).toLoadRect f18') shapeCasts_S32x96_S32x96) := by
    intro r l
    rw [if_neg (by omega)]
    exact (congrFun (shapeCast_self (s := S32x96) _ _) (ix2 r l)).trans (readAt_row _ _ hk (k0_off1_eq k) _ r l)
  have S : ∀ (q : Fin 12) {off : Fin 2 → ℕ} (h : off = ![32 * k.val, 128 * q.val]) (inb : ∀ a, off a + S32x128.size a ≤ S768x1536.size a) (row : FVec Ideal S32x96 .f32),
      Row j.val (fun r b => scaleN P.root (r0 + (32 * k.val + r.val)) b) (fun r l => arg18.view.read (Elt Ideal) f18' (ix2 ⟨32 * k.val + r.val, by omega⟩ l)) q.val row →
      Row j.val (fun r b => scaleN P.root (r0 + (32 * k.val + r.val)) b) (fun r l => arg18.view.read (Elt Ideal) f18' (ix2 ⟨32 * k.val + r.val, by omega⟩ l)) (q.val + 1)
        (rowV (F := Ideal) (BitVec.ofNat 32 j.val) (BitVec.ofNat 32 q.val) (scaleV (sqrt (vAt c i arg11 arg12 arg19 (BitVec.ofNat 32 j.val) k0_h2 k f11 f12 f19 (BitVec.ofNat 32 q.val) off inb))) row) :=
    fun q off h inb row hr => row_step j P.root (fun r => r0 + (32 * k.val + r.val)) _ q row _ (fun r l => (rootAt_apply H k q h inb r l).trans (by rw [Nat.add_assoc])) hr
  exact (S 11 (k0_off13_eq k) _ _ (S 10 (k0_off12_eq k) _ _ (S 9 (k0_off11_eq k) _ _ (S 8 (k0_off10_eq k) _ _ (S 7 (k0_off9_eq k) _ _ (S 6 (k0_off8_eq k) _ _ (S 5 (k0_off7_eq k) _ _ (S 4 (k0_off6_eq k) _ _ (S 3 (k0_off5_eq k) _ _ (S 2 (k0_off4_eq k) _ _ (S 1 (k0_off3_eq k) _ _ (S 0 (k0_off2_eq k) _ _ base))))))))))))

end Tile

end Cert.Proof.KernelIdeal

end
-- ==== Proof.Blocks.lean ====
module

public import proofs.«01_k».proof.Proof.Gen.KernelIdeal.Frame
public import proofs.«01_k».proof.Proof.Body
public import proofs.«01_k».proof.Proof.Prob
public import Idealize.ShloMosaic.Adequacy
public import Idealize.ShloMosaic.Init
public import Idealize.ShloMosaic.Lib.Pipeline.ArrRel
public import Idealize.ShloMosaic.Lib.Pipeline.FrameBody
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open Idealize.ShloMosaic.Pipeline (Dat RDat Cfg Window BodyObligation cellOf)

/-! The blocks of the grid points as parts of the arrays, and the accumulator's sum. -/

variable (m : (ℓ : Loc nD τ sig) → Buf (Elt Ideal) ℓ) (c : Dev nD)

/-- The inputs by row and column. -/
def X : ℕ → ℕ → EReal := nat2 (a := 24576) (b := 4608) (V m c main_v8)
def XS : ℕ → ℕ → EReal := nat2 (a := 24576) (b := 1) (V m c main_v9)
def DY : ℕ → ℕ → EReal := nat2 (a := 24576) (b := 12288) (V m c main_v10)
def DYS : ℕ → ℕ → EReal := nat2 (a := 24576) (b := 1) (V m c main_v11)

/-- The problem the kernel is given. -/
def P : Prob := mkProb (X m c) (XS m c) (DY m c) (DYS m c)
  (nat2 (a := 4608) (b := 12288) (V m c main_arg4)) (nat2 (a := 4608) (b := 12288) (V m c main_arg5)) (nat2 (a := 4608) (b := 96) (V m c main_arg6))
  (nat2 (a := 4608) (b := 12288) (V m c main_arg7)) (nat2 (a := 4608) (b := 96) (V m c main_arg8))
  ((V m c main_v7 : S2.Idx → EReal) (ix1 0)) ((V m c main_v7 : S2.Idx → EReal) (ix1 1))

/-- The coordinates of a point. -/
theorem coords_eq (t : Fin cfg0.N) : (grid0.coords t 0).val = t.val / 192 ∧ (grid0.coords t 1).val = t.val / 24 % 8 ∧ (grid0.coords t 2).val = t.val % 24 := by
  revert t; decide +kernel

theorem first_iff (t : Fin cfg0.N) : first (grid0.coords t) ↔ t.val % 24 = 0 := by
  revert t; decide +kernel

theorem last_iff (t : Fin cfg0.N) : k0_cond2 (grid0.coords t) = 1#1 ↔ t.val % 24 = 23 := by
  revert t; decide +kernel

/-- Where each window's block lies. -/
theorem idx (t : Fin cfg0.N) : (win0_1.index t 0 = t.val % 24 ∧ win0_1.index t 1 = t.val / 192) ∧ (win0_2.index t 0 = t.val % 24 ∧ win0_2.index t 1 = 0)
    ∧ (win0_3.index t 0 = t.val % 24 ∧ win0_3.index t 1 = t.val / 24 % 8) ∧ (win0_4.index t 0 = t.val % 24 ∧ win0_4.index t 1 = 0) := by
  revert t; decide +kernel

theorem idx' (t : Fin cfg0.N) : (win0_5.index t 0 = t.val / 192 ∧ win0_5.index t 1 = t.val / 24 % 8) ∧ (win0_6.index t 0 = t.val / 192 ∧ win0_6.index t 1 = t.val / 24 % 8)
    ∧ (win0_7.index t 0 = t.val / 192 ∧ win0_7.index t 1 = 0) ∧ (win0_8.index t 0 = t.val / 192 ∧ win0_8.index t 1 = t.val / 24 % 8)
    ∧ (win0_9.index t 0 = t.val / 192 ∧ win0_9.index t 1 = 0) := by
  revert t; decide +kernel

theorem iblk1 (t : Fin cfg0.N) (n : Fin 1024) (l : Fin 768) : (iblk m c 1 t : S1024x768.Idx → EReal) (ix2 n l) = X m c (1024 * (t.val % 24) + n.val) (768 * (t.val / 192) + l.val) := by
  blk_simp [iblk]
  refine nat2_eq (a := 24576) (b := 4608) _ ?_ ?_ <;> (blk_simp [idx t] <;> try omega)

theorem iblk2 (t : Fin cfg0.N) (n : Fin 1024) (l : Fin 1) : (iblk m c 2 t : S1024x1.Idx → EReal) (ix2 n l) = XS m c (1024 * (t.val % 24) + n.val) 0 := by
  blk_simp [iblk]
  refine nat2_eq (a := 24576) (b := 1) _ ?_ ?_ <;> (blk_simp [idx t] <;> try omega)

theorem iblk3 (t : Fin cfg0.N) (n : Fin 1024) (l : Fin 1536) : (iblk m c 3 t : S1024x1536.Idx → EReal) (ix2 n l) = DY m c (1024 * (t.val % 24) + n.val) (1536 * (t.val / 24 % 8) + l.val) := by
  blk_simp [iblk]
  refine nat2_eq (a := 24576) (b := 12288) _ ?_ ?_ <;> (blk_simp [idx t] <;> try omega)

theorem iblk4 (t : Fin cfg0.N) (n : Fin 1024) (l : Fin 1) : (iblk m c 4 t : S1024x1.Idx → EReal) (ix2 n l) = DYS m c (1024 * (t.val % 24) + n.val) 0 := by
  blk_simp [iblk]
  refine nat2_eq (a := 24576) (b := 1) _ ?_ ?_ <;> (blk_simp [idx t] <;> try omega)

theorem iblk5 (t : Fin cfg0.N) (n : Fin 768) (l : Fin 1536) : (iblk m c 5 t : S768x1536.Idx → EReal) (ix2 n l) = (P m c).w (768 * (t.val / 192) + n.val) (1536 * (t.val / 24 % 8) + l.val) := by
  blk_simp [iblk]
  refine nat2_eq (a := 4608) (b := 12288) _ ?_ ?_ <;> (blk_simp [idx' t] <;> try omega)

theorem iblk6 (t : Fin cfg0.N) (n : Fin 768) (l : Fin 1536) : (iblk m c 6 t : S768x1536.Idx → EReal) (ix2 n l) = (P m c).mc (768 * (t.val / 192) + n.val) (1536 * (t.val / 24 % 8) + l.val) := by
  blk_simp [iblk]
  refine nat2_eq (a := 4608) (b := 12288) _ ?_ ?_ <;> (blk_simp [idx' t] <;> try omega)

theorem iblk7 (t : Fin cfg0.N) (n : Fin 768) (l : Fin 96) : (iblk m c 7 t : S768x96.Idx → EReal) (ix2 n l) = (P m c).msc (768 * (t.val / 192) + n.val) (l.val) := by
  blk_simp [iblk]
  refine nat2_eq (a := 4608) (b := 96) _ ?_ ?_ <;> (blk_simp [idx' t] <;> try omega)

theorem iblk8 (t : Fin cfg0.N) (n : Fin 768) (l : Fin 1536) : (iblk m c 8 t : S768x1536.Idx → EReal) (ix2 n l) = (P m c).sc (768 * (t.val / 192) + n.val) (1536 * (t.val / 24 % 8) + l.val) := by
  blk_simp [iblk]
  refine nat2_eq (a := 4608) (b := 12288) _ ?_ ?_ <;> (blk_simp [idx' t] <;> try omega)

theorem iblk9 (t : Fin cfg0.N) (n : Fin 768) (l : Fin 96) : (iblk m c 9 t : S768x96.Idx → EReal) (ix2 n l) = (P m c).ssc (768 * (t.val / 192) + n.val) (l.val) := by
  blk_simp [iblk]
  refine nat2_eq (a := 4608) (b := 96) _ ?_ ?_ <;> (blk_simp [idx' t] <;> try omega)

theorem iblk0 (t : Fin cfg0.N) (n : Fin 2) : (iblk m c 0 t : S2.Idx → EReal) (ix1 n) = (V m c main_v7 : S2.Idx → EReal) (ix1 n) := by
  have h : win0_0.index t 0 = 0 := by revert t; decide +kernel
  blk_ext [iblk, h]

theorem pay2_apply (x : Vec Ideal S1024x768 .fp8e4m3) (xs : Vec Ideal S1024x1 .f32) (dy : Vec Ideal S1024x1536 .fp8e5m2) (dys : Vec Ideal S1024x1 .f32) (a : Vec Ideal S768x1536 .f32)
    (r : Fin 768) (l : Fin 1536) : k0_pay2 x xs dy dys a (ix2 r l)
      = a (ix2 r l) + ∑ n : Fin 1024, (x (ix2 n r) * xs (ix2 n 0)) * (dy (ix2 n l) * dys (ix2 n 0)) := by
  pointwise [k0_pay2]

theorem pay1_apply (r : Fin 768) (l : Fin 1536) : (k0_pay1 (F := Ideal)) (ix2 r l) = 0 := by
  pointwise [k0_pay1]

end Cert.Proof.KernelIdeal

end
-- ==== Proof.Point.lean ====
module

public import proofs.«01_k».proof.Proof.Gen.KernelIdeal.Frame
public import proofs.«01_k».proof.Proof.Body
public import proofs.«01_k».proof.Proof.Tile
public import proofs.«01_k».proof.Proof.Blocks
public import Idealize.ShloMosaic.Adequacy
public import Idealize.ShloMosaic.Init
public import Idealize.ShloMosaic.Lib.Pipeline.ArrRel
public import Idealize.ShloMosaic.Lib.Pipeline.FrameBody
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open Idealize.ShloMosaic.Pipeline (Dat RDat Cfg Window BodyObligation cellOf)

/-! What a grid point leaves, from what it is handed: the accumulator's partial sums, the tile's outputs at its last point, the scales of the block columns done. -/

variable (m : (ℓ : Loc nD τ sig) → Buf (Elt Ideal) ℓ) (c : Dev nD)

/-- Before point `n` the accumulator holds the sum over the tokens of the tile's points so far. -/
def AccOK (n : ℕ) (a : S768x1536.Idx → EReal) : Prop :=
  n % 24 ≠ 0 → ∀ (r : Fin 768) (l : Fin 1536), a (ix2 r l) = gradN (X m c) (XS m c) (DY m c) (DYS m c) (1024 * (n % 24)) (768 * (n / 192) + r.val) (1536 * (n / 24 % 8) + l.val)

/-- At the tile's last point the tile holds `f`. -/
def TileOK (f : ℕ → ℕ → EReal) (t : ℕ) (x : S768x1536.Idx → EReal) : Prop :=
  t % 24 = 23 → ∀ I : S768x1536.Idx, x I = f (768 * (t / 192) + (I 0).val) (1536 * (t / 24 % 8) + (I 1).val)

/-- The scales of the first `n` block columns of block row `i` are `f`'s. -/
def ScaleOK (f : ℕ → ℕ → EReal) (i n : ℕ) (x : S768x96.Idx → EReal) : Prop :=
  ∀ (r : Fin 768) (l : Fin 96), l.val < 12 * n → x (ix2 r l) = scaleN f (768 * i + r.val) l.val

theorem scaleOK_zero (f : ℕ → ℕ → EReal) (i : ℕ) (x : S768x96.Idx → EReal) : ScaleOK f i 0 x := fun _ _ h => absurd h (by omega)

theorem acc_step (t : Fin cfg0.N) (a : Vec Ideal S768x1536 .f32) (h : AccOK m c t.val a) (r : Fin 768) (l : Fin 1536) :
    accNext (F := Ideal) (grid0.coords t) (iblk m c 1 t) (iblk m c 2 t) (iblk m c 3 t) (iblk m c 4 t) a (ix2 r l)
      = gradN (X m c) (XS m c) (DY m c) (DYS m c) (1024 * (t.val % 24 + 1)) (768 * (t.val / 192) + r.val) (1536 * (t.val / 24 % 8) + l.val) := by
  unfold accNext
  rw [pay2_apply, show 1024 * (t.val % 24 + 1) = 1024 * (t.val % 24) + 1024 by omega, gradN_add]
  refine congrArg₂ (· + ·) ?_ (Finset.sum_congr rfl fun n _ => ?_)
  · by_cases h0 : t.val % 24 = 0
    · rw [if_pos ((first_iff t).mpr h0), pay1_apply, h0, gradN_zero]
    · rw [if_neg (fun e => h0 ((first_iff t).mp e))]
      exact h h0 r l
  · rw [iblk1, iblk2, iblk3, iblk4]

theorem P_g : (P m c).g = gradN (X m c) (XS m c) (DY m c) (DYS m c) 24576 := by simp only [P, mkProb]

theorem trips_eq : Scf.trips k0_t1_loop.lb k0_t1_loop.ub k0_t1_loop.st = 24 := trips24

section Point

variable
  (arg3 : Memref sig .tc .smem S2 .f32)
  (arg4 : Memref sig .tc .vmem S1024x768 .fp8e4m3)
  (arg5 : Memref sig .tc .vmem S1024x1 .f32)
  (arg6 : Memref sig .tc .vmem S1024x1536 .fp8e5m2)
  (arg7 : Memref sig .tc .vmem S1024x1 .f32)
  (arg8 : Memref sig .tc .vmem S768x1536 .bf16)
  (arg9 : Memref sig .tc .vmem S768x1536 .fp8e4m3)
  (arg10 : Memref sig .tc .vmem S768x96 .f32)
  (arg11 : Memref sig .tc .vmem S768x1536 .fp8e4m3)
  (arg12 : Memref sig .tc .vmem S768x96 .f32)
  (arg13 : Memref sig .tc .vmem S768x1536 .bf16)
  (arg14 : Memref sig .tc .vmem S768x1536 .f32)
  (arg15 : Memref sig .tc .vmem S768x1536 .fp8e4m3)
  (arg16 : Memref sig .tc .vmem S768x96 .f32)
  (arg17 : Memref sig .tc .vmem S768x1536 .fp8e4m3)
  (arg18 : Memref sig .tc .vmem S768x96 .f32)
  (arg19 : Memref sig .tc .vmem S768x1536 .f32)
  (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ))) (f17 : Buf (Elt Ideal) (arg17.view.loc (c : Thread nD τ))) (f18 : Buf (Elt Ideal) (arg18.view.loc (c : Thread nD τ))) (f19 : Buf (Elt Ideal) (arg19.view.loc (c : Thread nD τ)))
  (g13 : Buf (Elt Ideal) (arg13.view.loc (c : Thread nD τ))) (g14 : Buf (Elt Ideal) (arg14.view.loc (c : Thread nD τ))) (g15 : Buf (Elt Ideal) (arg15.view.loc (c : Thread nD τ))) (g16 : Buf (Elt Ideal) (arg16.view.loc (c : Thread nD τ))) (g17 : Buf (Elt Ideal) (arg17.view.loc (c : Thread nD τ))) (g18 : Buf (Elt Ideal) (arg18.view.loc (c : Thread nD τ))) (g19 : Buf (Elt Ideal) (arg19.view.loc (c : Thread nD τ)))

set_option maxHeartbeats 1000000 in
theorem point_step (t : Fin cfg0.N)
  (h0 : arg3.view.read (Elt Ideal) f3 = iblk m c 0 t)
  (h1 : arg4.view.read (Elt Ideal) f4 = iblk m c 1 t)
  (h2 : arg5.view.read (Elt Ideal) f5 = iblk m c 2 t)
  (h3 : arg6.view.read (Elt Ideal) f6 = iblk m c 3 t)
  (h4 : arg7.view.read (Elt Ideal) f7 = iblk m c 4 t)
  (h5 : arg8.view.read (Elt Ideal) f8 = iblk m c 5 t)
  (h6 : arg9.view.read (Elt Ideal) f9 = iblk m c 6 t)
  (h7 : arg10.view.read (Elt Ideal) f10 = iblk m c 7 t)
  (h8 : arg11.view.read (Elt Ideal) f11 = iblk m c 8 t)
  (h9 : arg12.view.read (Elt Ideal) f12 = iblk m c 9 t)
  (hacc : AccOK m c t.val (arg19.view.read (Elt Ideal) f19))
  (h16 : ScaleOK (P m c).m (t.val / 192) (t.val / 24 % 8) (arg16.view.read (Elt Ideal) f16))
  (h18 : ScaleOK (P m c).root (t.val / 192) (t.val / 24 % 8) (arg18.view.read (Elt Ideal) f18))
  (hL : Left c (grid0.coords t) arg3 arg4 arg5 arg6 arg7 arg8 arg9 arg10 arg11 arg12 arg13 arg14 arg15 arg16 arg17 arg18 arg19 f3 f4 f5 f6 f7 f8 f9 f10 f11 f12 f13 f14 f15 f16 f17 f18 f19 g13 g14 g15 g16 g17 g18 g19) :
    AccOK m c (t.val + 1) (arg19.view.read (Elt Ideal) g19)
    ∧ TileOK (P m c).wn t.val (arg13.view.read (Elt Ideal) g13)
    ∧ TileOK (P m c).upd t.val (arg14.view.read (Elt Ideal) g14)
    ∧ TileOK (codeN (P m c).m) t.val (arg15.view.read (Elt Ideal) g15)
    ∧ ScaleOK (P m c).m (t.val / 192) ((t.val % 192 + 1) / 24) (arg16.view.read (Elt Ideal) g16)
    ∧ TileOK (codeN (P m c).root) t.val (arg17.view.read (Elt Ideal) g17)
    ∧ ScaleOK (P m c).root (t.val / 192) ((t.val % 192 + 1) / 24) (arg18.view.read (Elt Ideal) g18) := by
  obtain ⟨hA, hlast, hskip⟩ := hL
  have hg : ∀ (r : Fin 768) (l : Fin 1536), (arg19.view.read (Elt Ideal) g19) (ix2 r l)
      = gradN (X m c) (XS m c) (DY m c) (DYS m c) (1024 * (t.val % 24 + 1)) (768 * (t.val / 192) + r.val) (1536 * (t.val / 24 % 8) + l.val) := fun r l => by
    rw [hA, h1, h2, h3, h4]
    exact acc_step m c t _ hacc r l
  have hacc' : AccOK m c (t.val + 1) (arg19.view.read (Elt Ideal) g19) := by
    intro h0 r l
    rw [hg, show (t.val + 1) % 24 = t.val % 24 + 1 by omega, show (t.val + 1) / 192 = t.val / 192 by omega, show (t.val + 1) / 24 = t.val / 24 by omega]
  refine ⟨hacc', ?_⟩
  by_cases hk : t.val % 24 = 23
  · obtain ⟨v28, v29, ⟨e13, e14, e15, e16, e17, e18⟩, hb1, hb2⟩ := hlast ((last_iff t).mpr hk)
    rw [trips_eq] at e13 e14 e15 e16 e17 e18
    have hj : (grid0.coords t 1).val = t.val / 24 % 8 := (coords_eq t).2.1
    let j : Fin 8 := ⟨t.val / 24 % 8, by omega⟩
    rw [show (grid0.coords t 1).val = j.val from hj] at e13 e14 e15 e16 e17 e18
    have T : IsTile c arg8 arg9 arg10 arg11 arg12 arg19 v28 v29 f8 f9 f10 f11 f12 g19 j (768 * (t.val / 192)) (P m c) := by
      refine ⟨?_, ?_, ?_, ?_, ?_, ?_, ?_, ?_⟩
      · intro r l; rw [h5]; exact iblk5 m c t r l
      · intro r l; rw [h6]; exact iblk6 m c t r l
      · intro r l; rw [h7]; exact iblk7 m c t r l
      · intro r l; rw [h8]; exact iblk8 m c t r l
      · intro r l; rw [h9]; exact iblk9 m c t r l
      · intro r l
        rw [hg, hk, P_g, show 1024 * (23 + 1) = 24576 by norm_num]
      · rw [hb1]; unfold bcAt; rw [h0]; exact iblk0 m c t 0
      · rw [hb2]; unfold bcAt; rw [h0]; exact iblk0 m c t 1
    have hn : (t.val % 192 + 1) / 24 = t.val / 24 % 8 + 1 := by omega
    refine ⟨?_, ?_, ?_, ?_, ?_, ?_⟩
    · intro _ I; rw [e13]; exact it13_apply arg13 f13 T I
    · intro _ I; rw [e14]; exact it14_apply arg14 f14 T I
    · intro _ I; rw [e15]; exact it15_apply arg15 f15 T I
    · intro r l hl
      rw [hn] at hl
      rw [e16]
      refine (it16_apply arg16 f16 T r l).trans ?_
      have hjv : j.val = t.val / 24 % 8 := rfl
      split
      · rfl
      · next hne => exact h16 r l (by omega)
    · intro _ I; rw [e17]; exact it17_apply arg17 f17 T I
    · intro r l hl
      rw [hn] at hl
      rw [e18]
      refine (it18_apply arg18 f18 T r l).trans ?_
      have hjv : j.val = t.val / 24 % 8 := rfl
      split
      · rfl
      · next hne => exact h18 r l (by omega)
  · obtain ⟨e13, e14, e15, e16, e17, e18⟩ := hskip fun e => hk ((last_iff t).mp e)
    have hn : (t.val % 192 + 1) / 24 = t.val / 24 % 8 := by omega
    refine ⟨fun h => absurd h hk, fun h => absurd h hk, fun h => absurd h hk, ?_, fun h => absurd h hk, ?_⟩
    · rw [e16, hn]; exact h16
    · rw [e18, hn]; exact h18

end Point

end Cert.Proof.KernelIdeal

end
-- ==== Proof.Run.lean ====
module

public import proofs.«01_k».proof.Proof.Gen.KernelIdeal.Frame
public import proofs.«01_k».proof.Proof.Body
public import proofs.«01_k».proof.Proof.Point
public import Idealize.ShloMosaic.Adequacy
public import Idealize.ShloMosaic.Init
public import Idealize.ShloMosaic.Lib.Pipeline.ArrRel
public import Idealize.ShloMosaic.Lib.Pipeline.FrameBody
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

/-! The whole run: what the arrays hold after it, through what each point finds and leaves. -/

local notation "𝕄" => MT nD τ sig Unit (Elt Ideal) ℕ (UR sig nD τ) ℕ

variable (m : (ℓ : Loc nD τ sig) → Buf (Elt Ideal) ℓ) (ρ : Dev nD → PrngReg)

/-- What is known of a window's buffer after a point: an input as it was, an output as the points so far leave it. -/
def after (c : Dev nD) (w : Fin cfg0.W) (t : Fin cfg0.N) : (Y X : (cfg0.win w).block.Idx → Elt Ideal (cfg0.win w).elt) → Prop :=
  match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun Y X => TileOK (P m c).wn t.val X
    | ⟨11, _⟩ => fun Y X => TileOK (P m c).upd t.val X
    | ⟨12, _⟩ => fun Y X => TileOK (codeN (P m c).m) t.val X
    | ⟨13, _⟩ => fun Y X => ScaleOK (P m c).m (t.val / 192) ((t.val % 192 + 1) / 24) X
    | ⟨14, _⟩ => fun Y X => TileOK (codeN (P m c).root) t.val X
    | ⟨15, _⟩ => fun Y X => ScaleOK (P m c).root (t.val / 192) ((t.val % 192 + 1) / 24) X
    | ⟨_ + 16, h⟩ => absurd h (Nat.not_lt.2 (Nat.le_add_left _ _))

/-- The accumulator before a point, and the generator's register. -/
def inv (c : Dev nD) (t : ℕ) : sProp 𝕄 :=
  iprop((∃ f : Buf (Elt Ideal) ((c : Thread nD τ).loc cc0_scratch0), ⌜AccOK m c t ((Memref.whole cc0_scratch0).view.read (Elt Ideal) f)⌝ ∗ ((c : Thread nD τ).loc cc0_scratch0) ↦{fullShare} f) ∗ ∃ r, prngReg c r)

def rdats (c : Dev nD) : RDat τ (Elt Ideal) Unit ℕ (UR sig nD τ) ℕ cfg0 c where
  A w := V m c (Pipeline.arrRef spec0 w)
  after := after m c
  Φ t := inv m c t.val
  q _ := fullShare
  owed _ := 0

theorem after_0 (c : Dev nD) (t : Fin cfg0.N) (Y X : (cfg0.win 0).block.Idx → Elt Ideal (cfg0.win 0).elt) (h : X = Y) : (rdats m c).after 0 t Y X := by
  dsimp only [rdats, after]
  exact h

theorem after_1 (c : Dev nD) (t : Fin cfg0.N) (Y X : (cfg0.win 1).block.Idx → Elt Ideal (cfg0.win 1).elt) (h : X = Y) : (rdats m c).after 1 t Y X := by
  dsimp only [rdats, after]
  exact h

theorem after_2 (c : Dev nD) (t : Fin cfg0.N) (Y X : (cfg0.win 2).block.Idx → Elt Ideal (cfg0.win 2).elt) (h : X = Y) : (rdats m c).after 2 t Y X := by
  dsimp only [rdats, after]
  exact h

theorem after_3 (c : Dev nD) (t : Fin cfg0.N) (Y X : (cfg0.win 3).block.Idx → Elt Ideal (cfg0.win 3).elt) (h : X = Y) : (rdats m c).after 3 t Y X := by
  dsimp only [rdats, after]
  exact h

theorem after_4 (c : Dev nD) (t : Fin cfg0.N) (Y X : (cfg0.win 4).block.Idx → Elt Ideal (cfg0.win 4).elt) (h : X = Y) : (rdats m c).after 4 t Y X := by
  dsimp only [rdats, after]
  exact h

theorem after_5 (c : Dev nD) (t : Fin cfg0.N) (Y X : (cfg0.win 5).block.Idx → Elt Ideal (cfg0.win 5).elt) (h : X = Y) : (rdats m c).after 5 t Y X := by
  dsimp only [rdats, after]
  exact h

theorem after_6 (c : Dev nD) (t : Fin cfg0.N) (Y X : (cfg0.win 6).block.Idx → Elt Ideal (cfg0.win 6).elt) (h : X = Y) : (rdats m c).after 6 t Y X := by
  dsimp only [rdats, after]
  exact h

theorem after_7 (c : Dev nD) (t : Fin cfg0.N) (Y X : (cfg0.win 7).block.Idx → Elt Ideal (cfg0.win 7).elt) (h : X = Y) : (rdats m c).after 7 t Y X := by
  dsimp only [rdats, after]
  exact h

theorem after_8 (c : Dev nD) (t : Fin cfg0.N) (Y X : (cfg0.win 8).block.Idx → Elt Ideal (cfg0.win 8).elt) (h : X = Y) : (rdats m c).after 8 t Y X := by
  dsimp only [rdats, after]
  exact h

theorem after_9 (c : Dev nD) (t : Fin cfg0.N) (Y X : (cfg0.win 9).block.Idx → Elt Ideal (cfg0.win 9).elt) (h : X = Y) : (rdats m c).after 9 t Y X := by
  dsimp only [rdats, after]
  exact h

theorem after_10 (c : Dev nD) (t : Fin cfg0.N) (Y X : (cfg0.win 10).block.Idx → Elt Ideal (cfg0.win 10).elt) (h : TileOK (P m c).wn t.val X) : (rdats m c).after 10 t Y X := by
  dsimp only [rdats, after]
  exact h

theorem after_11 (c : Dev nD) (t : Fin cfg0.N) (Y X : (cfg0.win 11).block.Idx → Elt Ideal (cfg0.win 11).elt) (h : TileOK (P m c).upd t.val X) : (rdats m c).after 11 t Y X := by
  dsimp only [rdats, after]
  exact h

theorem after_12 (c : Dev nD) (t : Fin cfg0.N) (Y X : (cfg0.win 12).block.Idx → Elt Ideal (cfg0.win 12).elt) (h : TileOK (codeN (P m c).m) t.val X) : (rdats m c).after 12 t Y X := by
  dsimp only [rdats, after]
  exact h

theorem after_13 (c : Dev nD) (t : Fin cfg0.N) (Y X : (cfg0.win 13).block.Idx → Elt Ideal (cfg0.win 13).elt) (h : ScaleOK (P m c).m (t.val / 192) ((t.val % 192 + 1) / 24) X) : (rdats m c).after 13 t Y X := by
  dsimp only [rdats, after]
  exact h

theorem after_14 (c : Dev nD) (t : Fin cfg0.N) (Y X : (cfg0.win 14).block.Idx → Elt Ideal (cfg0.win 14).elt) (h : TileOK (codeN (P m c).root) t.val X) : (rdats m c).after 14 t Y X := by
  dsimp only [rdats, after]
  exact h

theorem after_15 (c : Dev nD) (t : Fin cfg0.N) (Y X : (cfg0.win 15).block.Idx → Elt Ideal (cfg0.win 15).elt) (h : ScaleOK (P m c).root (t.val / 192) ((t.val % 192 + 1) / 24) X) : (rdats m c).after 15 t Y X := by
  dsimp only [rdats, after]
  exact h

theorem finds_0 (c : Dev nD) (t : Fin cfg0.N) (Y : (cfg0.win 0).block.Idx → Elt Ideal (cfg0.win 0).elt) (h : (rdats m c).Finds 0 t Y) : Y = iblk m c 0 t := by
  obtain ⟨d, hd⟩ := (rdats m c).finds_in_eq_fetched 0 rfl (fun _ _ _ => rfl) (fun _ _ _ h => h) t Y h
  rw [hd]
  rfl

theorem finds_1 (c : Dev nD) (t : Fin cfg0.N) (Y : (cfg0.win 1).block.Idx → Elt Ideal (cfg0.win 1).elt) (h : (rdats m c).Finds 1 t Y) : Y = iblk m c 1 t := by
  obtain ⟨d, hd⟩ := (rdats m c).finds_in_eq_fetched 1 rfl (fun _ _ _ => rfl) (fun _ _ _ h => h) t Y h
  rw [hd]
  rfl

theorem finds_2 (c : Dev nD) (t : Fin cfg0.N) (Y : (cfg0.win 2).block.Idx → Elt Ideal (cfg0.win 2).elt) (h : (rdats m c).Finds 2 t Y) : Y = iblk m c 2 t := by
  obtain ⟨d, hd⟩ := (rdats m c).finds_in_eq_fetched 2 rfl (fun _ _ _ => rfl) (fun _ _ _ h => h) t Y h
  rw [hd]
  rfl

theorem finds_3 (c : Dev nD) (t : Fin cfg0.N) (Y : (cfg0.win 3).block.Idx → Elt Ideal (cfg0.win 3).elt) (h : (rdats m c).Finds 3 t Y) : Y = iblk m c 3 t := by
  obtain ⟨d, hd⟩ := (rdats m c).finds_in_eq_fetched 3 rfl (fun _ _ _ => rfl) (fun _ _ _ h => h) t Y h
  rw [hd]
  rfl

theorem finds_4 (c : Dev nD) (t : Fin cfg0.N) (Y : (cfg0.win 4).block.Idx → Elt Ideal (cfg0.win 4).elt) (h : (rdats m c).Finds 4 t Y) : Y = iblk m c 4 t := by
  obtain ⟨d, hd⟩ := (rdats m c).finds_in_eq_fetched 4 rfl (fun _ _ _ => rfl) (fun _ _ _ h => h) t Y h
  rw [hd]
  rfl

theorem finds_5 (c : Dev nD) (t : Fin cfg0.N) (Y : (cfg0.win 5).block.Idx → Elt Ideal (cfg0.win 5).elt) (h : (rdats m c).Finds 5 t Y) : Y = iblk m c 5 t := by
  obtain ⟨d, hd⟩ := (rdats m c).finds_in_eq_fetched 5 rfl (fun _ _ _ => rfl) (fun _ _ _ h => h) t Y h
  rw [hd]
  rfl

theorem finds_6 (c : Dev nD) (t : Fin cfg0.N) (Y : (cfg0.win 6).block.Idx → Elt Ideal (cfg0.win 6).elt) (h : (rdats m c).Finds 6 t Y) : Y = iblk m c 6 t := by
  obtain ⟨d, hd⟩ := (rdats m c).finds_in_eq_fetched 6 rfl (fun _ _ _ => rfl) (fun _ _ _ h => h) t Y h
  rw [hd]
  rfl

theorem finds_7 (c : Dev nD) (t : Fin cfg0.N) (Y : (cfg0.win 7).block.Idx → Elt Ideal (cfg0.win 7).elt) (h : (rdats m c).Finds 7 t Y) : Y = iblk m c 7 t := by
  obtain ⟨d, hd⟩ := (rdats m c).finds_in_eq_fetched 7 rfl (fun _ _ _ => rfl) (fun _ _ _ h => h) t Y h
  rw [hd]
  rfl

theorem finds_8 (c : Dev nD) (t : Fin cfg0.N) (Y : (cfg0.win 8).block.Idx → Elt Ideal (cfg0.win 8).elt) (h : (rdats m c).Finds 8 t Y) : Y = iblk m c 8 t := by
  obtain ⟨d, hd⟩ := (rdats m c).finds_in_eq_fetched 8 rfl (fun _ _ _ => rfl) (fun _ _ _ h => h) t Y h
  rw [hd]
  rfl

theorem finds_9 (c : Dev nD) (t : Fin cfg0.N) (Y : (cfg0.win 9).block.Idx → Elt Ideal (cfg0.win 9).elt) (h : (rdats m c).Finds 9 t Y) : Y = iblk m c 9 t := by
  obtain ⟨d, hd⟩ := (rdats m c).finds_in_eq_fetched 9 rfl (fun _ _ _ => rfl) (fun _ _ _ h => h) t Y h
  rw [hd]
  rfl

theorem finds_13 (c : Dev nD) (t : Fin cfg0.N) (Y : (cfg0.win 13).block.Idx → Elt Ideal (cfg0.win 13).elt) (h : (rdats m c).Finds 13 t Y) :
    ScaleOK (P m c).m (t.val / 192) (t.val / 24 % 8) Y := by
  by_cases h0 : t.val % 192 = 0
  · rw [show t.val / 24 % 8 = 0 by omega]
    exact scaleOK_zero _ _ _
  · rcases (Pipeline.RDat.finds_of_pos (rdats m c) ((cfg0.win 13).fetch_out rfl t) (by omega) Y).mp h with hf | ⟨Y', -, hY⟩
    · have := (flush0_13 _).mp hf
      have e : (t.val - 1) % 192 = 191 := this
      omega
    · have hs : ScaleOK (P m c).m ((t.val - 1) / 192) (((t.val - 1) % 192 + 1) / 24) Y := hY
      rw [show (t.val - 1) / 192 = t.val / 192 by omega, show ((t.val - 1) % 192 + 1) / 24 = t.val / 24 % 8 by omega] at hs
      exact hs

theorem finds_15 (c : Dev nD) (t : Fin cfg0.N) (Y : (cfg0.win 15).block.Idx → Elt Ideal (cfg0.win 15).elt) (h : (rdats m c).Finds 15 t Y) :
    ScaleOK (P m c).root (t.val / 192) (t.val / 24 % 8) Y := by
  by_cases h0 : t.val % 192 = 0
  · rw [show t.val / 24 % 8 = 0 by omega]
    exact scaleOK_zero _ _ _
  · rcases (Pipeline.RDat.finds_of_pos (rdats m c) ((cfg0.win 15).fetch_out rfl t) (by omega) Y).mp h with hf | ⟨Y', -, hY⟩
    · have := (flush0_15 _).mp hf
      have e : (t.val - 1) % 192 = 191 := this
      omega
    · have hs : ScaleOK (P m c).root ((t.val - 1) / 192) (((t.val - 1) % 192 + 1) / 24) Y := hY
      rw [show (t.val - 1) / 192 = t.val / 192 by omega, show ((t.val - 1) % 192 + 1) / 24 = t.val / 24 % 8 by omega] at hs
      exact hs

/-- What the body is called with at point `t`. -/
def bodyPre (c : Dev nD) (t : Fin cfg0.N) (Y : (w : Fin 16) → (cfg0.win w).block.Idx → Elt Ideal (cfg0.win w).elt) : sProp 𝕄 :=
  iprop((rdats m c).Φ t.castSucc ∗ (rdats m c).owesAt () t.castSucc
    ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13) ∗ owns (c : Thread nD τ) (st0_14 t) fullShare (Y 14) ∗ owns (c : Thread nD τ) (st0_15 t) fullShare (Y 15))

/-- What it leaves. -/
def bodyPost (c : Dev nD) (t : Fin cfg0.N) (Y : (w : Fin 16) → (cfg0.win w).block.Idx → Elt Ideal (cfg0.win w).elt) : sProp 𝕄 :=
  iprop((rdats m c).Φ t.succ ∗ (rdats m c).owesAt () t.succ
    ∗ (∃ X, ⌜(rdats m c).after 0 t (Y 0) X⌝ ∗ owns (c : Thread nD τ) (st0_0 t) fullShare X) ∗ (∃ X, ⌜(rdats m c).after 1 t (Y 1) X⌝ ∗ owns (c : Thread nD τ) (st0_1 t) fullShare X) ∗ (∃ X, ⌜(rdats m c).after 2 t (Y 2) X⌝ ∗ owns (c : Thread nD τ) (st0_2 t) fullShare X) ∗ (∃ X, ⌜(rdats m c).after 3 t (Y 3) X⌝ ∗ owns (c : Thread nD τ) (st0_3 t) fullShare X) ∗ (∃ X, ⌜(rdats m c).after 4 t (Y 4) X⌝ ∗ owns (c : Thread nD τ) (st0_4 t) fullShare X) ∗ (∃ X, ⌜(rdats m c).after 5 t (Y 5) X⌝ ∗ owns (c : Thread nD τ) (st0_5 t) fullShare X) ∗ (∃ X, ⌜(rdats m c).after 6 t (Y 6) X⌝ ∗ owns (c : Thread nD τ) (st0_6 t) fullShare X) ∗ (∃ X, ⌜(rdats m c).after 7 t (Y 7) X⌝ ∗ owns (c : Thread nD τ) (st0_7 t) fullShare X) ∗ (∃ X, ⌜(rdats m c).after 8 t (Y 8) X⌝ ∗ owns (c : Thread nD τ) (st0_8 t) fullShare X) ∗ (∃ X, ⌜(rdats m c).after 9 t (Y 9) X⌝ ∗ owns (c : Thread nD τ) (st0_9 t) fullShare X) ∗ (∃ X, ⌜(rdats m c).after 10 t (Y 10) X⌝ ∗ owns (c : Thread nD τ) (st0_10 t) fullShare X) ∗ (∃ X, ⌜(rdats m c).after 11 t (Y 11) X⌝ ∗ owns (c : Thread nD τ) (st0_11 t) fullShare X) ∗ (∃ X, ⌜(rdats m c).after 12 t (Y 12) X⌝ ∗ owns (c : Thread nD τ) (st0_12 t) fullShare X) ∗ (∃ X, ⌜(rdats m c).after 13 t (Y 13) X⌝ ∗ owns (c : Thread nD τ) (st0_13 t) fullShare X) ∗ (∃ X, ⌜(rdats m c).after 14 t (Y 14) X⌝ ∗ owns (c : Thread nD τ) (st0_14 t) fullShare X) ∗ (∃ X, ⌜(rdats m c).after 15 t (Y 15) X⌝ ∗ owns (c : Thread nD τ) (st0_15 t) fullShare X))

theorem scratch_eq (c : Dev nD) (f : Buf (Elt Ideal) ((Memref.whole cc0_scratch0).view.loc (c : Thread nD τ))) :
    ((Memref.whole cc0_scratch0).view.loc (c : Thread nD τ) ↦[(Memref.whole cc0_scratch0).view.set]{fullShare} f : sProp 𝕄)
      = iprop((((c : Thread nD τ).loc cc0_scratch0) ↦{fullShare} f)) := by
  rw [show (Memref.whole cc0_scratch0).view.set = Finset.univ from View.set_whole _]

set_option maxHeartbeats 1600000 in
/-- The body at a point, from what the pipeline hands it. -/
theorem sound_body (c : Dev nD) (t : Fin cfg0.N) (Y : (w : Fin 16) → (cfg0.win w).block.Idx → Elt Ideal (cfg0.win w).elt) (hY : ∀ w, (rdats m c).Finds w t (Y w)) :
    bodyPre m c t Y ⊢ wp frame (wpE (defs₀ (F := Ideal)) 𝒱₀ (c : Thread nD τ) none) Set.univ (bodyAt0 t) (fun _ => bodyPost m c t Y) := by
  unfold bodyPre bodyPost bodyAt0
  rw [show (rdats m c).Φ t.castSucc = inv m c t.val from rfl, show (rdats m c).Φ t.succ = inv m c (t.val + 1) from rfl,
    show (rdats m c).owesAt () t.succ = (rdats m c).owesAt () t.castSucc from rfl]
  unfold inv owns
  iintro ⟨⟨⟨%fs, %hs, Hs⟩, Hr⟩, Ho, ⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩⟩
  iapply (wp_wand_r Idealize.ShloMosaic.frame (wpE (defs₀ (F := Ideal)) 𝒱₀ (c : Thread nD τ) none) Set.univ)
  isplitl [H0 H1 H2 H3 H4 H5 H6 H7 H8 H9 H10 H11 H12 H13 H14 H15 Hs]
  · iapply (body_run c (grid0.coords t) (st0_0 t) _ (st0_1 t) _ (st0_2 t) _ (st0_3 t) _ (st0_4 t) _ (st0_5 t) _ (st0_6 t) _ (st0_7 t) _ (st0_8 t) _ (st0_9 t) _ (st0_10 t) _ (st0_11 t) _ (st0_12 t) _ (st0_13 t) _ (st0_14 t) _ (st0_15 t) _ (Memref.whole cc0_scratch0) _ f0 f1 f2 f3 f4 f5 f6 f7 f8 f9 f10 f11 f12 f13 f14 f15 fs)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    rw [scratch_eq]; iexact Hs
  · iintro %_ ⟨%g10, %g11, %g12, %g13, %g14, %g15, %gs, %hL, H0, H1, H2, H3, H4, H5, H6, H7, H8, H9, H10, H11, H12, H13, H14, H15, Hs⟩
    obtain ⟨k19, k13, k14, k15, k16, k17, k18⟩ := point_step m c (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (Memref.whole cc0_scratch0) f0 f1 f2 f3 f4 f5 f6 f7 f8 f9 f10 f11 f12 f13 f14 f15 fs g10 g11 g12 g13 g14 g15 gs t
      (h0.trans (finds_0 m c t _ (hY 0))) (h1.trans (finds_1 m c t _ (hY 1))) (h2.trans (finds_2 m c t _ (hY 2))) (h3.trans (finds_3 m c t _ (hY 3))) (h4.trans (finds_4 m c t _ (hY 4))) (h5.trans (finds_5 m c t _ (hY 5))) (h6.trans (finds_6 m c t _ (hY 6))) (h7.trans (finds_7 m c t _ (hY 7))) (h8.trans (finds_8 m c t _ (hY 8))) (h9.trans (finds_9 m c t _ (hY 9))) hs
      (h13.symm ▸ finds_13 m c t _ (hY 13)) (h15.symm ▸ finds_15 m c t _ (hY 15)) hL
    isplitl [Hs Hr]
    · isplitl [Hs]
      · iexists gs; isplitr; · ipureintro; exact k19
        iapply (Entails.of_eq (scratch_eq c gs)); iexact Hs
      iexact Hr
    isplitl [Ho]; · iexact Ho
    isplitl [H0]
    · iexists (st0_0 t).view.read (Elt Ideal) f0; isplitr; · ipureintro; exact after_0 m c t _ _ h0
      iexists f0; isplitr; · ipureintro; rfl
      iexact H0
    isplitl [H1]
    · iexists (st0_1 t).view.read (Elt Ideal) f1; isplitr; · ipureintro; exact after_1 m c t _ _ h1
      iexists f1; isplitr; · ipureintro; rfl
      iexact H1
    isplitl [H2]
    · iexists (st0_2 t).view.read (Elt Ideal) f2; isplitr; · ipureintro; exact after_2 m c t _ _ h2
      iexists f2; isplitr; · ipureintro; rfl
      iexact H2
    isplitl [H3]
    · iexists (st0_3 t).view.read (Elt Ideal) f3; isplitr; · ipureintro; exact after_3 m c t _ _ h3
      iexists f3; isplitr; · ipureintro; rfl
      iexact H3
    isplitl [H4]
    · iexists (st0_4 t).view.read (Elt Ideal) f4; isplitr; · ipureintro; exact after_4 m c t _ _ h4
      iexists f4; isplitr; · ipureintro; rfl
      iexact H4
    isplitl [H5]
    · iexists (st0_5 t).view.read (Elt Ideal) f5; isplitr; · ipureintro; exact after_5 m c t _ _ h5
      iexists f5; isplitr; · ipureintro; rfl
      iexact H5
    isplitl [H6]
    · iexists (st0_6 t).view.read (Elt Ideal) f6; isplitr; · ipureintro; exact after_6 m c t _ _ h6
      iexists f6; isplitr; · ipureintro; rfl
      iexact H6
    isplitl [H7]
    · iexists (st0_7 t).view.read (Elt Ideal) f7; isplitr; · ipureintro; exact after_7 m c t _ _ h7
      iexists f7; isplitr; · ipureintro; rfl
      iexact H7
    isplitl [H8]
    · iexists (st0_8 t).view.read (Elt Ideal) f8; isplitr; · ipureintro; exact after_8 m c t _ _ h8
      iexists f8; isplitr; · ipureintro; rfl
      iexact H8
    isplitl [H9]
    · iexists (st0_9 t).view.read (Elt Ideal) f9; isplitr; · ipureintro; exact after_9 m c t _ _ h9
      iexists f9; isplitr; · ipureintro; rfl
      iexact H9
    isplitl [H10]
    · iexists (st0_10 t).view.read (Elt Ideal) g10; isplitr; · ipureintro; exact after_10 m c t _ _ k13
      iexists g10; isplitr; · ipureintro; rfl
      iexact H10
    isplitl [H11]
    · iexists (st0_11 t).view.read (Elt Ideal) g11; isplitr; · ipureintro; exact after_11 m c t _ _ k14
      iexists g11; isplitr; · ipureintro; rfl
      iexact H11
    isplitl [H12]
    · iexists (st0_12 t).view.read (Elt Ideal) g12; isplitr; · ipureintro; exact after_12 m c t _ _ k15
      iexists g12; isplitr; · ipureintro; rfl
      iexact H12
    isplitl [H13]
    · iexists (st0_13 t).view.read (Elt Ideal) g13; isplitr; · ipureintro; exact after_13 m c t _ _ k16
      iexists g13; isplitr; · ipureintro; rfl
      iexact H13
    isplitl [H14]
    · iexists (st0_14 t).view.read (Elt Ideal) g14; isplitr; · ipureintro; exact after_14 m c t _ _ k17
      iexists g14; isplitr; · ipureintro; rfl
      iexact H14
    iexists (st0_15 t).view.read (Elt Ideal) g15; isplitr; · ipureintro; exact after_15 m c t _ _ k18
    iexists g15; isplitr; · ipureintro; rfl
    iexact H15

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : (rdats m c).BodyObligation (defs₀ (F := Ideal)) 𝒱₀ () Set.univ := fun t Y hY => by
  rw [bigSep_W0, bigSep_W0, defs₀_row]
  exact triple_restated (sound_body m c t Y hY) rfl .rfl fun _ => .rfl

theorem inv_in (c : Dev nD) : (Pipeline.ΦA spec0 c : sProp 𝕄) ⊢ inv m c 0 := by
  unfold Pipeline.ΦA inv
  rw [scopedRest0_eq]
  iintro ⟨⟨%f, H⟩, Hr⟩
  isplitl [H]
  · iexists f; isplitr
    · ipureintro; exact fun h => absurd rfl h
    iexact H
  iexact Hr

theorem inv_out (c : Dev nD) (n : ℕ) : inv m c n ⊢ (Pipeline.ΦA spec0 c : sProp 𝕄) := by
  unfold Pipeline.ΦA inv
  rw [scopedRest0_eq]
  iintro ⟨⟨%f, -, H⟩, Hr⟩
  isplitl [H]
  · iexists f; iexact H
  iexact Hr

set_option backward.isDefEq.respectTransparency.types false in
set_option maxHeartbeats 800000 in
/-- Every execution ends, the arrays as the proof data allow, every counter at zero. -/
theorem run_main : θ_run defs (onTc (τ := τ) (main (F := Ideal))) (s₀ m ρ)
    (fun r => Pipeline.RDat.FramePost cfg0 (rdats m) (V m) r ∧ r.2.sem = fun _ => 0) :=
  Pipeline.RDat.θ_run_frame_track (Q' := fun r => Pipeline.RDat.FramePost cfg0 (rdats m) (V m) r ∧ r.2.sem = fun _ => 0)
    cfgs (0 : Fin 1) launch0 defs₀ 𝒱₀ (rdats m) m ρ main
    (hbody := body_obligation m) (hshare := fun c w => by unfold Pipeline.RDat.share; split <;> rfl)
    (howed := fun _ _ => rfl) (V := V m) (hmain := hmain m 𝒱₀) (hA := fun _ _ => rfl) (hin := inv_in m) (hout := fun c => inv_out m c _)
    (hQ' := fun _ h => h)

/-- The frame claim's statement: the arguments end as they began and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r hr => ⟨fun c => by
    have h := hr.1
    refine ⟨?_, ?_, ?_, ?_, ?_, ?_, ?_, ?_, ?_, ?_⟩
    · exact ((h c).2 main_arg0 (Pipeline.mem_restRefs_of main_arg0 (by decide) (by decide))).trans (V_main_arg0 m c)
    · exact ((h c).2 main_arg1 (Pipeline.mem_restRefs_of main_arg1 (by decide) (by decide))).trans (V_main_arg1 m c)
    · exact ((h c).2 main_arg2 (Pipeline.mem_restRefs_of main_arg2 (by decide) (by decide))).trans (V_main_arg2 m c)
    · exact ((h c).2 main_arg3 (Pipeline.mem_restRefs_of main_arg3 (by decide) (by decide))).trans (V_main_arg3 m c)
    · exact (Pipeline.RDat.FramePost.arr_in h c 5 rfl).trans (V_main_arg4 m c)
    · exact (Pipeline.RDat.FramePost.arr_in h c 6 rfl).trans (V_main_arg5 m c)
    · exact (Pipeline.RDat.FramePost.arr_in h c 7 rfl).trans (V_main_arg6 m c)
    · exact (Pipeline.RDat.FramePost.arr_in h c 8 rfl).trans (V_main_arg7 m c)
    · exact (Pipeline.RDat.FramePost.arr_in h c 9 rfl).trans (V_main_arg8 m c)
    · exact ((h c).2 main_arg9 (Pipeline.mem_restRefs_of main_arg9 (by decide) (by decide))).trans (V_main_arg9 m c), hr.2⟩) (run_main m ρ)

end Cert.Proof.KernelIdeal

end
-- ==== Proof.Arrays.lean ====
module

public import proofs.«01_k».proof.Proof.Gen.KernelIdeal.Frame
public import proofs.«01_k».proof.Proof.Body
public import proofs.«01_k».proof.Proof.Run
public import Idealize.ShloMosaic.Lib.Pipeline.ValueKit
public import Idealize.ShloMosaic.Adequacy
public import Idealize.ShloMosaic.Init
public import Idealize.ShloMosaic.Lib.Pipeline.ArrRel
public import Idealize.ShloMosaic.Lib.Pipeline.FrameBody
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

/-! The six results after the run. -/

variable (m : (ℓ : Loc nD τ sig) → Buf (Elt Ideal) ℓ)

theorem idxo (t : Fin cfg0.N) : (win0_10.index t 0 = t.val / 192 ∧ win0_10.index t 1 = t.val / 24 % 8) ∧ (win0_11.index t 0 = t.val / 192 ∧ win0_11.index t 1 = t.val / 24 % 8)
    ∧ (win0_12.index t 0 = t.val / 192 ∧ win0_12.index t 1 = t.val / 24 % 8) ∧ (win0_13.index t 0 = t.val / 192 ∧ win0_13.index t 1 = 0)
    ∧ (win0_14.index t 0 = t.val / 192 ∧ win0_14.index t 1 = t.val / 24 % 8) ∧ (win0_15.index t 0 = t.val / 192 ∧ win0_15.index t 1 = 0) := by
  revert t; decide +kernel

theorem out_10 (c : Dev nD) (t : Fin cfg0.N) (Y X : (cfg0.win 10).block.Idx → Elt Ideal (cfg0.win 10).elt) (h : (rdats m c).after 10 t Y X) : TileOK ((P m c).wn) t.val X := by
  dsimp only [rdats, after] at h
  exact h

theorem final_10 (c : Dev nD) (aft : (w' : Fin cfg0.W) → Fin cfg0.N → (cfg0.win w').block.Idx → Elt Ideal (cfg0.win w').elt)
    (hL : ∀ (w : Fin cfg0.W) (u : Fin cfg0.N), (cfg0.win w).flush u = true → (rdats m c).Leaves w u (aft w u)) :
    ((rdats m c).withAfter aft).arrAt 10 cfg0.N = arr2 (a := 4608) (b := 12288) ((P m c).wn) := by
  refine Dat.arrAt_eq_of_covers ((rdats m c).withAfter aft) 10 _ (by decide +kernel) fun t hf y => ?_
  have hk := (flush0_10 t).mp hf
  obtain ⟨Y, -, hY⟩ := hL 10 t hf
  have hX := out_10 m c t _ _ hY
  blk_simp
  rw [Pipeline.RDat.withAfter_after, arr2_apply]
  refine (hX hk y).trans ?_
  refine congrArg₂ ((P m c).wn) ?_ ?_ <;> (blk_simp [idxo t] <;> try omega)

theorem out_11 (c : Dev nD) (t : Fin cfg0.N) (Y X : (cfg0.win 11).block.Idx → Elt Ideal (cfg0.win 11).elt) (h : (rdats m c).after 11 t Y X) : TileOK ((P m c).upd) t.val X := by
  dsimp only [rdats, after] at h
  exact h

theorem final_11 (c : Dev nD) (aft : (w' : Fin cfg0.W) → Fin cfg0.N → (cfg0.win w').block.Idx → Elt Ideal (cfg0.win w').elt)
    (hL : ∀ (w : Fin cfg0.W) (u : Fin cfg0.N), (cfg0.win w).flush u = true → (rdats m c).Leaves w u (aft w u)) :
    ((rdats m c).withAfter aft).arrAt 11 cfg0.N = arr2 (a := 4608) (b := 12288) ((P m c).upd) := by
  refine Dat.arrAt_eq_of_covers ((rdats m c).withAfter aft) 11 _ (by decide +kernel) fun t hf y => ?_
  have hk := (flush0_11 t).mp hf
  obtain ⟨Y, -, hY⟩ := hL 11 t hf
  have hX := out_11 m c t _ _ hY
  blk_simp
  rw [Pipeline.RDat.withAfter_after, arr2_apply]
  refine (hX hk y).trans ?_
  refine congrArg₂ ((P m c).upd) ?_ ?_ <;> (blk_simp [idxo t] <;> try omega)

theorem out_12 (c : Dev nD) (t : Fin cfg0.N) (Y X : (cfg0.win 12).block.Idx → Elt Ideal (cfg0.win 12).elt) (h : (rdats m c).after 12 t Y X) : TileOK (codeN (P m c).m) t.val X := by
  dsimp only [rdats, after] at h
  exact h

theorem final_12 (c : Dev nD) (aft : (w' : Fin cfg0.W) → Fin cfg0.N → (cfg0.win w').block.Idx → Elt Ideal (cfg0.win w').elt)
    (hL : ∀ (w : Fin cfg0.W) (u : Fin cfg0.N), (cfg0.win w).flush u = true → (rdats m c).Leaves w u (aft w u)) :
    ((rdats m c).withAfter aft).arrAt 12 cfg0.N = arr2 (a := 4608) (b := 12288) (codeN (P m c).m) := by
  refine Dat.arrAt_eq_of_covers ((rdats m c).withAfter aft) 12 _ (by decide +kernel) fun t hf y => ?_
  have hk := (flush0_12 t).mp hf
  obtain ⟨Y, -, hY⟩ := hL 12 t hf
  have hX := out_12 m c t _ _ hY
  blk_simp
  rw [Pipeline.RDat.withAfter_after, arr2_apply]
  refine (hX hk y).trans ?_
  refine congrArg₂ (codeN (P m c).m) ?_ ?_ <;> (blk_simp [idxo t] <;> try omega)

theorem out_13 (c : Dev nD) (t : Fin cfg0.N) (Y X : (cfg0.win 13).block.Idx → Elt Ideal (cfg0.win 13).elt) (h : (rdats m c).after 13 t Y X) : ScaleOK ((P m c).m) (t.val / 192) ((t.val % 192 + 1) / 24) X := by
  dsimp only [rdats, after] at h
  exact h

theorem final_13 (c : Dev nD) (aft : (w' : Fin cfg0.W) → Fin cfg0.N → (cfg0.win w').block.Idx → Elt Ideal (cfg0.win w').elt)
    (hL : ∀ (w : Fin cfg0.W) (u : Fin cfg0.N), (cfg0.win w).flush u = true → (rdats m c).Leaves w u (aft w u)) :
    ((rdats m c).withAfter aft).arrAt 13 cfg0.N = arr2 (a := 4608) (b := 96) (scaleN (P m c).m) := by
  refine Dat.arrAt_eq_of_covers ((rdats m c).withAfter aft) 13 _ (by decide +kernel) fun t hf y => ?_
  have hk := (flush0_13 t).mp hf
  obtain ⟨Y, -, hY⟩ := hL 13 t hf
  have hX := out_13 m c t _ _ hY
  blk_simp
  rw [Pipeline.RDat.withAfter_after, arr2_apply]
  rw [show (t.val % 192 + 1) / 24 = 8 by omega] at hX
  have e := hX (y 0) (y 1) (by have : (y 1).val < 96 := (y 1).isLt; omega)
  rw [← eq_ix2 (n0 := 768) (n1 := 96) y] at e
  refine e.trans ?_
  refine congrArg₂ (scaleN (P m c).m) ?_ ?_ <;> (blk_simp [idxo t] <;> try omega)

theorem out_14 (c : Dev nD) (t : Fin cfg0.N) (Y X : (cfg0.win 14).block.Idx → Elt Ideal (cfg0.win 14).elt) (h : (rdats m c).after 14 t Y X) : TileOK (codeN (P m c).root) t.val X := by
  dsimp only [rdats, after] at h
  exact h

theorem final_14 (c : Dev nD) (aft : (w' : Fin cfg0.W) → Fin cfg0.N → (cfg0.win w').block.Idx → Elt Ideal (cfg0.win w').elt)
    (hL : ∀ (w : Fin cfg0.W) (u : Fin cfg0.N), (cfg0.win w).flush u = true → (rdats m c).Leaves w u (aft w u)) :
    ((rdats m c).withAfter aft).arrAt 14 cfg0.N = arr2 (a := 4608) (b := 12288) (codeN (P m c).root) := by
  refine Dat.arrAt_eq_of_covers ((rdats m c).withAfter aft) 14 _ (by decide +kernel) fun t hf y => ?_
  have hk := (flush0_14 t).mp hf
  obtain ⟨Y, -, hY⟩ := hL 14 t hf
  have hX := out_14 m c t _ _ hY
  blk_simp
  rw [Pipeline.RDat.withAfter_after, arr2_apply]
  refine (hX hk y).trans ?_
  refine congrArg₂ (codeN (P m c).root) ?_ ?_ <;> (blk_simp [idxo t] <;> try omega)

theorem out_15 (c : Dev nD) (t : Fin cfg0.N) (Y X : (cfg0.win 15).block.Idx → Elt Ideal (cfg0.win 15).elt) (h : (rdats m c).after 15 t Y X) : ScaleOK ((P m c).root) (t.val / 192) ((t.val % 192 + 1) / 24) X := by
  dsimp only [rdats, after] at h
  exact h

theorem final_15 (c : Dev nD) (aft : (w' : Fin cfg0.W) → Fin cfg0.N → (cfg0.win w').block.Idx → Elt Ideal (cfg0.win w').elt)
    (hL : ∀ (w : Fin cfg0.W) (u : Fin cfg0.N), (cfg0.win w).flush u = true → (rdats m c).Leaves w u (aft w u)) :
    ((rdats m c).withAfter aft).arrAt 15 cfg0.N = arr2 (a := 4608) (b := 96) (scaleN (P m c).root) := by
  refine Dat.arrAt_eq_of_covers ((rdats m c).withAfter aft) 15 _ (by decide +kernel) fun t hf y => ?_
  have hk := (flush0_15 t).mp hf
  obtain ⟨Y, -, hY⟩ := hL 15 t hf
  have hX := out_15 m c t _ _ hY
  blk_simp
  rw [Pipeline.RDat.withAfter_after, arr2_apply]
  rw [show (t.val % 192 + 1) / 24 = 8 by omega] at hX
  have e := hX (y 0) (y 1) (by have : (y 1).val < 96 := (y 1).isLt; omega)
  rw [← eq_ix2 (n0 := 768) (n1 := 96) y] at e
  refine e.trans ?_
  refine congrArg₂ (scaleN (P m c).root) ?_ ?_ <;> (blk_simp [idxo t] <;> try omega)

end Cert.Proof.KernelIdeal

end
-- ==== Proof.Results.lean ====
module

public import proofs.«01_k».proof.Proof.Gen.KernelIdeal.Frame
public import proofs.«01_k».proof.Proof.Body
public import proofs.«01_k».proof.Proof.Arrays
public import Idealize.ShloMosaic.Lib.Pipeline.ValueKit
public import Idealize.ShloMosaic.Adequacy
public import Idealize.ShloMosaic.Init
public import Idealize.ShloMosaic.Lib.Pipeline.ArrRel
public import Idealize.ShloMosaic.Lib.Pipeline.FrameBody
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

/-! What the kernel's run leaves. -/

variable (m : (ℓ : Loc nD τ sig) → Buf (Elt Ideal) ℓ)

/-- After the kernel's run the six results hold what its problem says. -/
theorem results (ρ : Dev nD → PrngReg) : θ_run defs (onTc (τ := τ) (main (F := Ideal))) ⟨m, fun _ => 0, ρ⟩ (fun r => ∀ c : Dev nD,
      r.2.mem ((c.tc : Thread nD τ).loc main_v12_0) = arr2 (a := 4608) (b := 12288) ((P m c).wn)
      ∧ r.2.mem ((c.tc : Thread nD τ).loc main_v12_1) = arr2 (a := 4608) (b := 12288) ((P m c).upd)
      ∧ r.2.mem ((c.tc : Thread nD τ).loc main_v12_2) = arr2 (a := 4608) (b := 12288) (codeN (P m c).m)
      ∧ r.2.mem ((c.tc : Thread nD τ).loc main_v12_3) = arr2 (a := 4608) (b := 96) (scaleN (P m c).m)
      ∧ r.2.mem ((c.tc : Thread nD τ).loc main_v12_4) = arr2 (a := 4608) (b := 12288) (codeN (P m c).root)
      ∧ r.2.mem ((c.tc : Thread nD τ).loc main_v12_5) = arr2 (a := 4608) (b := 96) (scaleN (P m c).root)) :=
  (θ_run defs _ _).mono (fun r hr c => by
    obtain ⟨aft, hL, hA⟩ := Pipeline.RDat.FramePost.exists_exact hr.1 c
    exact ⟨(hA 10).trans (final_10 m c aft hL), (hA 11).trans (final_11 m c aft hL), (hA 12).trans (final_12 m c aft hL), (hA 13).trans (final_13 m c aft hL), (hA 14).trans (final_14 m c aft hL), (hA 15).trans (final_15 m c aft hL)⟩) (run_main m ρ)

end Cert.Proof.KernelIdeal
-- ==== Proof.RefElem.lean ====
module

public import proofs.«01_k».proof.Proof.Gen.ReferenceIdeal.Frame
public import proofs.«01_k».proof.Proof.Prob
public import Idealize.ShloMosaic.Lib.Pipeline.ValueKit

@[expose] public section

set_option maxRecDepth 16384

noncomputable section

/-! The reference's vectors, element by element, over the extended reals. -/

namespace Cert.Proof.ReferenceIdeal

open Cert.ReferenceIdeal Cert.ReferenceIdeal.Gen
open Idealize.ShloMosaic Idealize.ShloMosaic.TcCoe Idealize.ShloMosaic.Tactic

/-- A column of the flat array as a block and a lane. -/
theorem split3 (c : Fin 12288) : c.val = 128 * (c.val / 128) + c.val % 128 := by omega

/-- The greatest magnitude of each block over 448. -/
def magV (v : FVec Ideal S4608x96x128 .f32) : FVec Ideal S4608x96x1 .f32 :=
  mulf (shapeCast S4608x96x1 (multiReduction .maximumf [2] S4608x96 (absf v) 0xFF800000#32 reduces_S4608x96x128_S4608x96 (.inl rfl) rfl : FVec Ideal S4608x96 .f32) shapeCasts_S4608x96_S4608x96x1)
    (broadcast S4608x96x1 (Scalar.ofBits .f32 0x3B124925#32))

theorem red_apply (v : FVec Ideal S4608x96x128 .f32) (r : Fin 4608) (b : Fin 96) :
    (multiReduction .maximumf [2] S4608x96 v 0xFF800000#32 reduces_S4608x96x128_S4608x96 (.inl rfl) rfl : FVec Ideal S4608x96 .f32) (ix2 r b)
      = Finset.fold max (Ideal.ofBits .f32 0xFF800000#32) (fun x => (v (ix3 r b x) : EReal)) Finset.univ := by
  pointwise []

theorem cast_apply (v : FVec Ideal S4608x96 .f32) (r : Fin 4608) (b : Fin 96) :
    (shapeCast S4608x96x1 v shapeCasts_S4608x96_S4608x96x1 : FVec Ideal S4608x96x1 .f32) (ix3 r b 0) = v (ix2 r b) := by
  pointwise []

theorem mul_apply (v : FVec Ideal S4608x96x1 .f32) (i : S4608x96x1.Idx) :
    mulf v (broadcast S4608x96x1 (Scalar.ofBits .f32 0x3B124925#32)) i = (v i * Ideal.ofBits .f32 0x3B124925#32 : EReal) := by
  pointwise []

theorem magV_apply (v : FVec Ideal S4608x96x128 .f32) (r : Fin 4608) (b : Fin 96) :
    magV v (ix3 r b 0) = magS fun l => v (ix3 r b l) :=
  (mul_apply _ _).trans (congrArg (fun z : EReal => z * Ideal.ofBits .f32 0x3B124925#32) ((cast_apply _ r b).trans (red_apply (absf v) r b)))

theorem pay13_eq (g d : FVec Ideal S4608x96x128 .f32) : k0_pay13 (F := Ideal) g d = magV (k0_pay9 g d) := rfl

theorem pay20_eq (v : FVec Ideal S4608x96x128 .f32) : k0_pay20 (F := Ideal) v = magV (k0_pay19 v) := rfl

/-- The exponent of each block. -/
def expV (a : FVec Ideal S4608x96x1 .f32) : FVec Ideal S4608x96x1 .f32 :=
  k0_pay16 a (addf (floor (divf (log a) (log (broadcast S4608x96x1 (Scalar.ofBits .f32 0x40000000#32))))) (broadcast S4608x96x1 (Scalar.ofBits .f32 0x3F800000#32))) k0_pay15

theorem expV_apply (a : FVec Ideal S4608x96x1 .f32) (i : S4608x96x1.Idx) : expV a i = expR (a i) := by
  pointwise [expV, k0_pay16, k0_pay15]
  unfold expR
  with_reducible rfl

theorem pay16_eq (g d : FVec Ideal S4608x96x128 .f32) : k0_pay16 (F := Ideal) (k0_pay13 g d) (k0_pay14 g d) k0_pay15 = expV (k0_pay13 g d) := rfl

theorem pay23_eq (v : FVec Ideal S4608x96x128 .f32) : k0_pay23 (F := Ideal) (k0_pay20 v) (k0_pay21 v) k0_pay22 = expV (k0_pay20 v) := rfl

theorem pay9_apply (g d : FVec Ideal S4608x96x128 .f32) (r : Fin 4608) (b : Fin 96) (l : Fin 128) :
    k0_pay9 (F := Ideal) g d (ix3 r b l) = (Ideal.ofBits .f32 0x3F666666#32 * d (ix3 r b l) + Ideal.ofBits .f32 0x3DCCCCCD#32 * g (ix3 r b l) : EReal) := by
  pointwise [k0_pay9]

theorem pay10_apply (g s : FVec Ideal S4608x96x128 .f32) (r : Fin 4608) (b : Fin 96) (l : Fin 128) :
    k0_pay10 (F := Ideal) g s (ix3 r b l) = (Ideal.ofBits .f32 0x3F7FBE77#32 * s (ix3 r b l) + Ideal.ofBits .f32 0x3A83126F#32 * g (ix3 r b l) * g (ix3 r b l) : EReal) := by
  pointwise [k0_pay10]

theorem pay19_apply (v : FVec Ideal S4608x96x128 .f32) (r : Fin 4608) (b : Fin 96) (l : Fin 128) :
    k0_pay19 (F := Ideal) v (ix3 r b l) = (Ideal.sqrt (v (ix3 r b l)) : EReal) := by
  pointwise [k0_pay19]

theorem upd_apply (b1 b2 : FVec Ideal S1x1x1 .f32) (g d s : FVec Ideal S4608x96x128 .f32) (r : Fin 4608) (c : Fin 12288) :
    k0_pay11 (F := Ideal) b1 b2 g d s (ix2 r c)
      = updS (b1 (ix3 0 0 0)) (b2 (ix3 0 0 0)) (k0_pay9 (F := Ideal) g d (ix3 r ⟨c.val / 128, by omega⟩ ⟨c.val % 128, by omega⟩)) (k0_pay10 (F := Ideal) g s (ix3 r ⟨c.val / 128, by omega⟩ ⟨c.val % 128, by omega⟩)) := by
  pointwise [k0_pay11]
  unfold updS
  with_reducible rfl

theorem w_apply (b1 b2 : FVec Ideal S1x1x1 .f32) (g d s : FVec Ideal S4608x96x128 .f32) (w : Vec Ideal S4608x12288 .bf16) (i : S4608x12288.Idx) :
    k0_pay12 (F := Ideal) b1 b2 g d s w i = (w i + k0_pay11 (F := Ideal) b1 b2 g d s i : EReal) := by
  pointwise [k0_pay12]

theorem b1_apply (b : Vec Ideal S1x1x1 .f32) : k0_pay4 (F := Ideal) b (ix3 0 0 0) = b (ix3 0 0 0) := by
  pointwise [k0_pay4]

theorem b2_apply (b : Vec Ideal S1x1x1 .f32) : k0_pay5 (F := Ideal) b (ix3 0 0 0) = b (ix3 0 0 0) := by
  pointwise [k0_pay5]

theorem g_apply (x : Vec Ideal S24576x4608 .fp8e4m3) (xs : Vec Ideal S24576x1 .f32) (dy : Vec Ideal S24576x12288 .fp8e5m2) (dys : Vec Ideal S24576x1 .f32)
    (r : Fin 4608) (b : Fin 96) (l : Fin 128) :
    k0_pay6 (F := Ideal) x xs dy dys (ix3 r b l)
      = gradN (nat2 (a := 24576) (b := 4608) x) (nat2 (a := 24576) (b := 1) xs) (nat2 (a := 24576) (b := 12288) dy) (nat2 (a := 24576) (b := 1) dys) 24576 r.val (128 * b.val + l.val) := by
  pointwise [k0_pay6]
  unfold gradN
  rw [Finset.sum_range]
  refine Finset.sum_congr rfl fun k _ => ?_
  have e1 : x (ix2 k r) = nat2 (a := 24576) (b := 4608) x k.val r.val := nat2_eq x rfl rfl
  have e2 : xs (ix2 k 0) = nat2 (a := 24576) (b := 1) xs k.val 0 := nat2_eq xs rfl rfl
  have e3 : dys (ix2 k 0) = nat2 (a := 24576) (b := 1) dys k.val 0 := nat2_eq dys rfl rfl
  have e4 : dy (ix2 k ⟨b.val * 128 + l.val, by omega⟩) = nat2 (a := 24576) (b := 12288) dy k.val (128 * b.val + l.val) :=
    nat2_eq dy rfl (by show b.val * 128 + l.val = _; omega)
  rw [e1, e2, e3, e4]

theorem d_apply (q : Vec Ideal S4608x12288 .fp8e4m3) (s : Vec Ideal S4608x96 .f32) (r : Fin 4608) (b : Fin 96) (l : Fin 128) :
    k0_pay7 (F := Ideal) q s (ix3 r b l) = nat2 (a := 4608) (b := 12288) q r.val (128 * b.val + l.val) * nat2 (a := 4608) (b := 96) s r.val b.val := by
  pointwise [k0_pay7]
  have e : q (ix2 r ⟨b.val * 128 + l.val, by omega⟩) = nat2 (a := 4608) (b := 12288) q r.val (128 * b.val + l.val) :=
    nat2_eq q rfl (by show b.val * 128 + l.val = _; omega)
  have e2 : s (ix2 r b) = nat2 (a := 4608) (b := 96) s r.val b.val := nat2_eq s rfl rfl
  rw [e, e2]

theorem dd_apply (q : Vec Ideal S4608x12288 .fp8e4m3) (s : Vec Ideal S4608x96 .f32) (r : Fin 4608) (b : Fin 96) (l : Fin 128) :
    k0_pay8 (F := Ideal) q s (ix3 r b l) = (nat2 (a := 4608) (b := 12288) q r.val (128 * b.val + l.val) * nat2 (a := 4608) (b := 96) s r.val b.val)
      * (nat2 (a := 4608) (b := 12288) q r.val (128 * b.val + l.val) * nat2 (a := 4608) (b := 96) s r.val b.val) := by
  pointwise [k0_pay8]
  have e : q (ix2 r ⟨b.val * 128 + l.val, by omega⟩) = nat2 (a := 4608) (b := 12288) q r.val (128 * b.val + l.val) :=
    nat2_eq q rfl (by show b.val * 128 + l.val = _; omega)
  have e2 : s (ix2 r b) = nat2 (a := 4608) (b := 96) s r.val b.val := nat2_eq s rfl rfl
  rw [e, e2]

/-- The codes and the scales, given the blocks' exponents. -/
theorem code_apply (n : FVec Ideal S4608x96x128 .f32) (a e t : FVec Ideal S4608x96x1 .f32) (r : Fin 4608) (c : Fin 12288) (x : EReal)
    (h : k0_pay16 (F := Ideal) a e t (ix3 r ⟨c.val / 128, by omega⟩ 0) = expR x) :
    k0_pay26 (F := Ideal) (k0_pay18 n a e t) (ix2 r c) = codeS (n (ix3 r ⟨c.val / 128, by omega⟩ ⟨c.val % 128, by omega⟩)) (invR x) := by
  pointwise [k0_pay26, k0_pay18]
  rw [h]
  unfold codeS invR
  rfl

theorem code_apply' (n : FVec Ideal S4608x96x128 .f32) (a e t : FVec Ideal S4608x96x1 .f32) (r : Fin 4608) (c : Fin 12288) (x : EReal)
    (h : k0_pay23 (F := Ideal) a e t (ix3 r ⟨c.val / 128, by omega⟩ 0) = expR x) :
    k0_pay2 (F := Ideal) (k0_pay25 n a e t) (ix2 r c) = codeS (n (ix3 r ⟨c.val / 128, by omega⟩ ⟨c.val % 128, by omega⟩)) (invR x) := by
  pointwise [k0_pay2, k0_pay25]
  rw [h]
  unfold codeS invR
  rfl

theorem scale_apply (a e t : FVec Ideal S4608x96x1 .f32) (r : Fin 4608) (b : Fin 96) (x : EReal) (h : k0_pay16 (F := Ideal) a e t (ix3 r b 0) = expR x) :
    k0_pay1 (F := Ideal) (k0_pay17 a e t) (ix2 r b) = scaleR x := by
  pointwise [k0_pay1, k0_pay17]
  rw [h]
  unfold scaleR
  rfl

theorem scale_apply' (a e t : FVec Ideal S4608x96x1 .f32) (r : Fin 4608) (b : Fin 96) (x : EReal) (h : k0_pay23 (F := Ideal) a e t (ix3 r b 0) = expR x) :
    k0_pay3 (F := Ideal) (k0_pay24 a e t) (ix2 r b) = scaleR x := by
  pointwise [k0_pay3, k0_pay24]
  rw [h]
  unfold scaleR
  rfl

section Values

variable (x0 x1 : Vec Ideal S1x1x1 .f32) (x2 : Vec Ideal S24576x4608 .fp8e4m3) (x3 : Vec Ideal S24576x1 .f32) (x4 : Vec Ideal S24576x12288 .fp8e5m2)
  (x5 : Vec Ideal S24576x1 .f32) (x6 : Vec Ideal S4608x12288 .bf16) (x7 : Vec Ideal S4608x12288 .fp8e4m3) (x8 : Vec Ideal S4608x96 .f32)
  (x9 : Vec Ideal S4608x12288 .fp8e4m3) (x10 : Vec Ideal S4608x96 .f32)

/-- The problem the reference is given. -/
def Q : Prob := mkProb (nat2 (a := 24576) (b := 4608) x2) (nat2 (a := 24576) (b := 1) x3) (nat2 (a := 24576) (b := 12288) x4) (nat2 (a := 24576) (b := 1) x5)
  (nat2 (a := 4608) (b := 12288) x6) (nat2 (a := 4608) (b := 12288) x7) (nat2 (a := 4608) (b := 96) x8) (nat2 (a := 4608) (b := 12288) x9)
  (nat2 (a := 4608) (b := 96) x10) (x0 (ix3 0 0 0)) (x1 (ix3 0 0 0))

theorem m_eq (r : Fin 4608) (b : Fin 96) (l : Fin 128) : (k0_pay9 (F := Ideal) (k0_pay6 (F := Ideal) x2 x3 x4 x5) (k0_pay7 (F := Ideal) x7 x8)) (ix3 r b l) = (Q x0 x1 x2 x3 x4 x5 x6 x7 x8 x9 x10).m r.val (128 * b.val + l.val) := by
  have h : (128 * b.val + l.val) / 128 = b.val := by omega
  rw [pay9_apply, g_apply, d_apply]
  simp only [Prob.m, Q, mkProb, mS, h]

theorem v_eq (r : Fin 4608) (b : Fin 96) (l : Fin 128) : (k0_pay10 (F := Ideal) (k0_pay6 (F := Ideal) x2 x3 x4 x5) (k0_pay8 (F := Ideal) x9 x10)) (ix3 r b l) = (Q x0 x1 x2 x3 x4 x5 x6 x7 x8 x9 x10).v r.val (128 * b.val + l.val) := by
  have h : (128 * b.val + l.val) / 128 = b.val := by omega
  rw [pay10_apply, g_apply, dd_apply]
  simp only [Prob.v, Q, mkProb, vS, h]

theorem root_eq (r : Fin 4608) (b : Fin 96) (l : Fin 128) : k0_pay19 (F := Ideal) (k0_pay10 (F := Ideal) (k0_pay6 (F := Ideal) x2 x3 x4 x5) (k0_pay8 (F := Ideal) x9 x10)) (ix3 r b l) = (Q x0 x1 x2 x3 x4 x5 x6 x7 x8 x9 x10).root r.val (128 * b.val + l.val) := by
  rw [pay19_apply, v_eq x0 x1 x2 x3 x4 x5 x6 x7 x8]; rfl

theorem m_mag (r : Fin 4608) (b : Fin 96) : k0_pay13 (F := Ideal) (k0_pay6 (F := Ideal) x2 x3 x4 x5) (k0_pay7 (F := Ideal) x7 x8) (ix3 r b 0) = magS fun l => (Q x0 x1 x2 x3 x4 x5 x6 x7 x8 x9 x10).m r.val (128 * b.val + l.val) := by
  rw [pay13_eq, magV_apply]
  exact congrArg magS (funext fun l => m_eq x0 x1 x2 x3 x4 x5 x6 x7 x8 x9 x10 r b l)

theorem root_mag (r : Fin 4608) (b : Fin 96) : k0_pay20 (F := Ideal) (k0_pay10 (F := Ideal) (k0_pay6 (F := Ideal) x2 x3 x4 x5) (k0_pay8 (F := Ideal) x9 x10)) (ix3 r b 0) = magS fun l => (Q x0 x1 x2 x3 x4 x5 x6 x7 x8 x9 x10).root r.val (128 * b.val + l.val) := by
  rw [pay20_eq, magV_apply]
  exact congrArg magS (funext fun l => root_eq x0 x1 x2 x3 x4 x5 x6 x7 x8 x9 x10 r b l)

theorem m_exp (r : Fin 4608) (b : Fin 96) :
    k0_pay16 (F := Ideal) (k0_pay13 (k0_pay6 (F := Ideal) x2 x3 x4 x5) (k0_pay7 x7 x8)) (k0_pay14 (k0_pay6 (F := Ideal) x2 x3 x4 x5) (k0_pay7 x7 x8)) k0_pay15 (ix3 r b 0) = expR (magS fun l => (Q x0 x1 x2 x3 x4 x5 x6 x7 x8 x9 x10).m r.val (128 * b.val + l.val)) := by
  rw [pay16_eq, expV_apply, m_mag x0 x1 x2 x3 x4 x5 x6 x7 x8 x9 x10]

theorem root_exp (r : Fin 4608) (b : Fin 96) :
    k0_pay23 (F := Ideal) (k0_pay20 (k0_pay10 (F := Ideal) (k0_pay6 (F := Ideal) x2 x3 x4 x5) (k0_pay8 (F := Ideal) x9 x10))) (k0_pay21 (k0_pay10 (F := Ideal) (k0_pay6 (F := Ideal) x2 x3 x4 x5) (k0_pay8 (F := Ideal) x9 x10))) k0_pay22 (ix3 r b 0) = expR (magS fun l => (Q x0 x1 x2 x3 x4 x5 x6 x7 x8 x9 x10).root r.val (128 * b.val + l.val)) := by
  rw [pay23_eq, expV_apply, root_mag x0 x1 x2 x3 x4 x5 x6 x7 x8 x9 x10]

theorem m_eq' (r : Fin 4608) (c : Fin 12288) : (k0_pay9 (F := Ideal) (k0_pay6 (F := Ideal) x2 x3 x4 x5) (k0_pay7 (F := Ideal) x7 x8)) (ix3 r ⟨c.val / 128, by omega⟩ ⟨c.val % 128, by omega⟩) = (Q x0 x1 x2 x3 x4 x5 x6 x7 x8 x9 x10).m r.val c.val :=
  (m_eq x0 x1 x2 x3 x4 x5 x6 x7 x8 x9 x10 r _ _).trans (congrArg ((Q x0 x1 x2 x3 x4 x5 x6 x7 x8 x9 x10).m r.val) (split3 c).symm)

theorem v_eq' (r : Fin 4608) (c : Fin 12288) : (k0_pay10 (F := Ideal) (k0_pay6 (F := Ideal) x2 x3 x4 x5) (k0_pay8 (F := Ideal) x9 x10)) (ix3 r ⟨c.val / 128, by omega⟩ ⟨c.val % 128, by omega⟩) = (Q x0 x1 x2 x3 x4 x5 x6 x7 x8 x9 x10).v r.val c.val :=
  (v_eq x0 x1 x2 x3 x4 x5 x6 x7 x8 x9 x10 r _ _).trans (congrArg ((Q x0 x1 x2 x3 x4 x5 x6 x7 x8 x9 x10).v r.val) (split3 c).symm)

theorem root_eq' (r : Fin 4608) (c : Fin 12288) : k0_pay19 (F := Ideal) (k0_pay10 (F := Ideal) (k0_pay6 (F := Ideal) x2 x3 x4 x5) (k0_pay8 (F := Ideal) x9 x10)) (ix3 r ⟨c.val / 128, by omega⟩ ⟨c.val % 128, by omega⟩) = (Q x0 x1 x2 x3 x4 x5 x6 x7 x8 x9 x10).root r.val c.val :=
  (root_eq x0 x1 x2 x3 x4 x5 x6 x7 x8 x9 x10 r _ _).trans (congrArg ((Q x0 x1 x2 x3 x4 x5 x6 x7 x8 x9 x10).root r.val) (split3 c).symm)

/-- The six results. -/
theorem upd_val (r : Fin 4608) (c : Fin 12288) :
    k0_pay11 (F := Ideal) (k0_pay4 x0) (k0_pay5 x1) (k0_pay6 (F := Ideal) x2 x3 x4 x5) (k0_pay7 x7 x8) (k0_pay8 x9 x10) (ix2 r c) = (Q x0 x1 x2 x3 x4 x5 x6 x7 x8 x9 x10).upd r.val c.val := by
  rw [upd_apply, b1_apply, b2_apply, m_eq' x0 x1 x2 x3 x4 x5 x6 x7 x8 x9 x10, v_eq' x0 x1 x2 x3 x4 x5 x6 x7 x8 x9 x10]
  simp only [Prob.upd, Q, mkProb]

theorem w_val (r : Fin 4608) (c : Fin 12288) :
    k0_pay12 (F := Ideal) (k0_pay4 x0) (k0_pay5 x1) (k0_pay6 (F := Ideal) x2 x3 x4 x5) (k0_pay7 x7 x8) (k0_pay8 x9 x10) x6 (ix2 r c) = (Q x0 x1 x2 x3 x4 x5 x6 x7 x8 x9 x10).wn r.val c.val := by
  have e : x6 (ix2 r c) = nat2 (a := 4608) (b := 12288) x6 r.val c.val := nat2_eq x6 rfl rfl
  rw [w_apply, upd_val x0 x1 x2 x3 x4 x5 x6 x7 x8 x9 x10, e]
  simp only [Prob.wn, Q, mkProb]

theorem mcode_val (r : Fin 4608) (c : Fin 12288) :
    k0_pay26 (F := Ideal) (k0_pay18 (k0_pay9 (F := Ideal) (k0_pay6 (F := Ideal) x2 x3 x4 x5) (k0_pay7 (F := Ideal) x7 x8)) (k0_pay13 (k0_pay6 (F := Ideal) x2 x3 x4 x5) (k0_pay7 x7 x8)) (k0_pay14 (k0_pay6 (F := Ideal) x2 x3 x4 x5) (k0_pay7 x7 x8)) k0_pay15) (ix2 r c) = codeN (Q x0 x1 x2 x3 x4 x5 x6 x7 x8 x9 x10).m r.val c.val := by
  rw [code_apply _ _ _ _ r c _ (m_exp x0 x1 x2 x3 x4 x5 x6 x7 x8 x9 x10 r ⟨c.val / 128, by omega⟩), m_eq' x0 x1 x2 x3 x4 x5 x6 x7 x8 x9 x10, ← (scale_inv _ (magS_nonneg _)).2]
  rfl

theorem mscale_val (r : Fin 4608) (b : Fin 96) :
    k0_pay1 (F := Ideal) (k0_pay17 (k0_pay13 (k0_pay6 (F := Ideal) x2 x3 x4 x5) (k0_pay7 x7 x8)) (k0_pay14 (k0_pay6 (F := Ideal) x2 x3 x4 x5) (k0_pay7 x7 x8)) k0_pay15) (ix2 r b) = scaleN (Q x0 x1 x2 x3 x4 x5 x6 x7 x8 x9 x10).m r.val b.val := by
  rw [scale_apply _ _ _ r b _ (m_exp x0 x1 x2 x3 x4 x5 x6 x7 x8 x9 x10 r b), ← (scale_inv _ (magS_nonneg _)).1]
  rfl

theorem scode_val (r : Fin 4608) (c : Fin 12288) :
    k0_pay2 (F := Ideal) (k0_pay25 (k0_pay19 (k0_pay10 (F := Ideal) (k0_pay6 (F := Ideal) x2 x3 x4 x5) (k0_pay8 (F := Ideal) x9 x10))) (k0_pay20 (k0_pay10 (F := Ideal) (k0_pay6 (F := Ideal) x2 x3 x4 x5) (k0_pay8 (F := Ideal) x9 x10))) (k0_pay21 (k0_pay10 (F := Ideal) (k0_pay6 (F := Ideal) x2 x3 x4 x5) (k0_pay8 (F := Ideal) x9 x10))) k0_pay22) (ix2 r c) = codeN (Q x0 x1 x2 x3 x4 x5 x6 x7 x8 x9 x10).root r.val c.val := by
  rw [code_apply' _ _ _ _ r c _ (root_exp x0 x1 x2 x3 x4 x5 x6 x7 x8 x9 x10 r ⟨c.val / 128, by omega⟩), root_eq' x0 x1 x2 x3 x4 x5 x6 x7 x8 x9 x10, ← (scale_inv _ (magS_nonneg _)).2]
  rfl

theorem sscale_val (r : Fin 4608) (b : Fin 96) :
    k0_pay3 (F := Ideal) (k0_pay24 (k0_pay20 (k0_pay10 (F := Ideal) (k0_pay6 (F := Ideal) x2 x3 x4 x5) (k0_pay8 (F := Ideal) x9 x10))) (k0_pay21 (k0_pay10 (F := Ideal) (k0_pay6 (F := Ideal) x2 x3 x4 x5) (k0_pay8 (F := Ideal) x9 x10))) k0_pay22) (ix2 r b) = scaleN (Q x0 x1 x2 x3 x4 x5 x6 x7 x8 x9 x10).root r.val b.val := by
  rw [scale_apply' _ _ _ r b _ (root_exp x0 x1 x2 x3 x4 x5 x6 x7 x8 x9 x10 r b), ← (scale_inv _ (magS_nonneg _)).1]
  rfl

end Values

end Cert.Proof.ReferenceIdeal
-- ==== Proof.RefArrays.lean ====
module

public import proofs.«01_k».proof.Proof.Gen.ReferenceIdeal.Frame
public import proofs.«01_k».proof.Proof.RefElem
public import Idealize.ShloMosaic.Lib.Pipeline.ValueKit

@[expose] public section

set_option maxRecDepth 16384

noncomputable section

/-! The reference's six results as whole arrays, and its problem. -/

namespace Cert.Proof.ReferenceIdeal

open Cert.ReferenceIdeal Cert.ReferenceIdeal.Gen
open Idealize.ShloMosaic Idealize.ShloMosaic.TcCoe Idealize.ShloMosaic.Tactic
open Idealize.SL Idealize.SL.RA Idealize.SL.BI
open Idealize.SL.Sem
open Idealize.ShloMosaic.Pipeline (Dat Cfg Window)

section Values

variable (x0 x1 : Vec Ideal S1x1x1 .f32) (x2 : Vec Ideal S24576x4608 .fp8e4m3) (x3 : Vec Ideal S24576x1 .f32) (x4 : Vec Ideal S24576x12288 .fp8e5m2)
  (x5 : Vec Ideal S24576x1 .f32) (x6 : Vec Ideal S4608x12288 .bf16) (x7 : Vec Ideal S4608x12288 .fp8e4m3) (x8 : Vec Ideal S4608x96 .f32)
  (x9 : Vec Ideal S4608x12288 .fp8e4m3) (x10 : Vec Ideal S4608x96 .f32)

theorem pair_eq {a b : ℕ} (j : (⟨2, ![a, b]⟩ : Shape).Idx) : j = ix2 (j 0) (j 1) := by
  funext k
  match k with
  | 0 => rfl
  | 1 => rfl

theorem out_11 : out0_11 (F := Ideal) x0 x1 x2 x3 x4 x5 x6 x7 x8 x9 x10 = arr2 (a := 4608) (b := 12288) ((Q x0 x1 x2 x3 x4 x5 x6 x7 x8 x9 x10).wn) := by
  funext j
  unfold_out out0_11
  frame_out
  rw [arr2_apply]
  obtain ⟨r, c, rfl⟩ : ∃ (r : Fin 4608) (c : Fin 12288), j = ix2 r c := ⟨_, _, pair_eq j⟩
  exact w_val x0 x1 x2 x3 x4 x5 x6 x7 x8 x9 x10 r c

theorem out_12 : out0_12 (F := Ideal) x0 x1 x2 x3 x4 x5 x6 x7 x8 x9 x10 = arr2 (a := 4608) (b := 12288) ((Q x0 x1 x2 x3 x4 x5 x6 x7 x8 x9 x10).upd) := by
  funext j
  unfold_out out0_12
  frame_out
  rw [arr2_apply]
  obtain ⟨r, c, rfl⟩ : ∃ (r : Fin 4608) (c : Fin 12288), j = ix2 r c := ⟨_, _, pair_eq j⟩
  exact upd_val x0 x1 x2 x3 x4 x5 x6 x7 x8 x9 x10 r c

theorem out_13 : out0_13 (F := Ideal) x0 x1 x2 x3 x4 x5 x6 x7 x8 x9 x10 = arr2 (a := 4608) (b := 12288) (codeN ((Q x0 x1 x2 x3 x4 x5 x6 x7 x8 x9 x10)).m) := by
  funext j
  unfold_out out0_13
  frame_out
  rw [arr2_apply]
  obtain ⟨r, c, rfl⟩ : ∃ (r : Fin 4608) (c : Fin 12288), j = ix2 r c := ⟨_, _, pair_eq j⟩
  exact mcode_val x0 x1 x2 x3 x4 x5 x6 x7 x8 x9 x10 r c

theorem out_14 : out0_14 (F := Ideal) x0 x1 x2 x3 x4 x5 x6 x7 x8 x9 x10 = arr2 (a := 4608) (b := 96) (scaleN ((Q x0 x1 x2 x3 x4 x5 x6 x7 x8 x9 x10)).m) := by
  funext j
  unfold_out out0_14
  frame_out
  rw [arr2_apply]
  obtain ⟨r, c, rfl⟩ : ∃ (r : Fin 4608) (c : Fin 96), j = ix2 r c := ⟨_, _, pair_eq j⟩
  exact mscale_val x0 x1 x2 x3 x4 x5 x6 x7 x8 x9 x10 r c

theorem out_15 : out0_15 (F := Ideal) x0 x1 x2 x3 x4 x5 x6 x7 x8 x9 x10 = arr2 (a := 4608) (b := 12288) (codeN ((Q x0 x1 x2 x3 x4 x5 x6 x7 x8 x9 x10)).root) := by
  funext j
  unfold_out out0_15
  frame_out
  rw [arr2_apply]
  obtain ⟨r, c, rfl⟩ : ∃ (r : Fin 4608) (c : Fin 12288), j = ix2 r c := ⟨_, _, pair_eq j⟩
  exact scode_val x0 x1 x2 x3 x4 x5 x6 x7 x8 x9 x10 r c

theorem out_16 : out0_16 (F := Ideal) x0 x1 x2 x3 x4 x5 x6 x7 x8 x9 x10 = arr2 (a := 4608) (b := 96) (scaleN ((Q x0 x1 x2 x3 x4 x5 x6 x7 x8 x9 x10)).root) := by
  funext j
  unfold_out out0_16
  frame_out
  rw [arr2_apply]
  obtain ⟨r, c, rfl⟩ : ∃ (r : Fin 4608) (c : Fin 96), j = ix2 r c := ⟨_, _, pair_eq j⟩
  exact sscale_val x0 x1 x2 x3 x4 x5 x6 x7 x8 x9 x10 r c

end Values

variable (m : (ℓ : Loc nD τ sig) → Buf (Elt Ideal) ℓ) (c : Dev nD)

/-- The problem the reference is given, from what its one grid point reads. -/
def P : Prob := Q (V m c main_v3) (V m c main_v6) (V m c main_v7) (V m c main_v8) (V m c main_v9) (V m c main_v10) (V m c main_arg4) (V m c main_arg5)
  (V m c main_arg6) (V m c main_arg7) (V m c main_arg8)

theorem idx (t : Fin cfg0.N) : (win0_0.index t 0 = 0 ∧ win0_0.index t 1 = 0 ∧ win0_0.index t 2 = 0) ∧ (win0_1.index t 0 = 0 ∧ win0_1.index t 1 = 0 ∧ win0_1.index t 2 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) ∧ (win0_7.index t 0 = 0 ∧ win0_7.index t 1 = 0) ∧ (win0_8.index t 0 = 0 ∧ win0_8.index t 1 = 0) ∧ (win0_9.index t 0 = 0 ∧ win0_9.index t 1 = 0) ∧ (win0_10.index t 0 = 0 ∧ win0_10.index t 1 = 0) ∧ (win0_11.index t 0 = 0 ∧ win0_11.index t 1 = 0) ∧ (win0_12.index t 0 = 0 ∧ win0_12.index t 1 = 0) ∧ (win0_13.index t 0 = 0 ∧ win0_13.index t 1 = 0) ∧ (win0_14.index t 0 = 0 ∧ win0_14.index t 1 = 0) ∧ (win0_15.index t 0 = 0 ∧ win0_15.index t 1 = 0) ∧ (win0_16.index t 0 = 0 ∧ win0_16.index t 1 = 0) := by
  revert t; decide +kernel

theorem iblk0 (t : Fin cfg0.N) : iblk m c 0 t = V m c main_v3 := by
  blk_ext! [iblk, idx t]

theorem iblk1 (t : Fin cfg0.N) : iblk m c 1 t = V m c main_v6 := by
  blk_ext! [iblk, idx t]

theorem iblk2 (t : Fin cfg0.N) : iblk m c 2 t = V m c main_v7 := by
  blk_ext! [iblk, idx t]

theorem iblk3 (t : Fin cfg0.N) : iblk m c 3 t = V m c main_v8 := by
  blk_ext! [iblk, idx t]

theorem iblk4 (t : Fin cfg0.N) : iblk m c 4 t = V m c main_v9 := by
  blk_ext! [iblk, idx t]

theorem iblk5 (t : Fin cfg0.N) : iblk m c 5 t = V m c main_v10 := by
  blk_ext! [iblk, idx t]

theorem iblk6 (t : Fin cfg0.N) : iblk m c 6 t = V m c main_arg4 := by
  blk_ext! [iblk, idx t]

theorem iblk7 (t : Fin cfg0.N) : iblk m c 7 t = V m c main_arg5 := by
  blk_ext! [iblk, idx t]

theorem iblk8 (t : Fin cfg0.N) : iblk m c 8 t = V m c main_arg6 := by
  blk_ext! [iblk, idx t]

theorem iblk9 (t : Fin cfg0.N) : iblk m c 9 t = V m c main_arg7 := by
  blk_ext! [iblk, idx t]

theorem iblk10 (t : Fin cfg0.N) : iblk m c 10 t = V m c main_arg8 := by
  blk_ext! [iblk, idx t]

theorem final_11 : (dats m 0 c).arrAt 11 cfg0.N = arr2 (a := 4608) (b := 12288) ((P m c).wn) := by
  refine (dats m 0 c).arrAt_eq_of_after_last 11 t0_0 (by decide +kernel) _ fun j => ?_
  blk_simp [idx t0_0]
  rw [after0_11, iblk0, iblk1, iblk2, iblk3, iblk4, iblk5, iblk6, iblk7, iblk8, iblk9, iblk10, out_11]
  rfl

theorem final_12 : (dats m 0 c).arrAt 12 cfg0.N = arr2 (a := 4608) (b := 12288) ((P m c).upd) := by
  refine (dats m 0 c).arrAt_eq_of_after_last 12 t0_0 (by decide +kernel) _ fun j => ?_
  blk_simp [idx t0_0]
  rw [after0_12, iblk0, iblk1, iblk2, iblk3, iblk4, iblk5, iblk6, iblk7, iblk8, iblk9, iblk10, out_12]
  rfl

theorem final_13 : (dats m 0 c).arrAt 13 cfg0.N = arr2 (a := 4608) (b := 12288) (codeN ((P m c)).m) := by
  refine (dats m 0 c).arrAt_eq_of_after_last 13 t0_0 (by decide +kernel) _ fun j => ?_
  blk_simp [idx t0_0]
  rw [after0_13, iblk0, iblk1, iblk2, iblk3, iblk4, iblk5, iblk6, iblk7, iblk8, iblk9, iblk10, out_13]
  rfl

theorem final_14 : (dats m 0 c).arrAt 14 cfg0.N = arr2 (a := 4608) (b := 96) (scaleN ((P m c)).m) := by
  refine (dats m 0 c).arrAt_eq_of_after_last 14 t0_0 (by decide +kernel) _ fun j => ?_
  blk_simp [idx t0_0]
  rw [after0_14, iblk0, iblk1, iblk2, iblk3, iblk4, iblk5, iblk6, iblk7, iblk8, iblk9, iblk10, out_14]
  rfl

theorem final_15 : (dats m 0 c).arrAt 15 cfg0.N = arr2 (a := 4608) (b := 12288) (codeN ((P m c)).root) := by
  refine (dats m 0 c).arrAt_eq_of_after_last 15 t0_0 (by decide +kernel) _ fun j => ?_
  blk_simp [idx t0_0]
  rw [after0_15, iblk0, iblk1, iblk2, iblk3, iblk4, iblk5, iblk6, iblk7, iblk8, iblk9, iblk10, out_15]
  rfl

theorem final_16 : (dats m 0 c).arrAt 16 cfg0.N = arr2 (a := 4608) (b := 96) (scaleN ((P m c)).root) := by
  refine (dats m 0 c).arrAt_eq_of_after_last 16 t0_0 (by decide +kernel) _ fun j => ?_
  blk_simp [idx t0_0]
  rw [after0_16, iblk0, iblk1, iblk2, iblk3, iblk4, iblk5, iblk6, iblk7, iblk8, iblk9, iblk10, out_16]
  rfl

/-- After the reference's run the six results hold what its problem says. -/
theorem results (ρ : Dev nD → PrngReg) : θ_run defs (onTc (τ := τ) (main (F := Ideal))) ⟨m, fun _ => 0, ρ⟩ (fun r => ∀ c : Dev nD,
      r.2.mem ((c.tc : Thread nD τ).loc main_v11_0) = arr2 (a := 4608) (b := 12288) ((P m c).wn)
      ∧ r.2.mem ((c.tc : Thread nD τ).loc main_v11_1) = arr2 (a := 4608) (b := 12288) ((P m c).upd)
      ∧ r.2.mem ((c.tc : Thread nD τ).loc main_v11_2) = arr2 (a := 4608) (b := 12288) (codeN (P m c).m)
      ∧ r.2.mem ((c.tc : Thread nD τ).loc main_v11_3) = arr2 (a := 4608) (b := 96) (scaleN (P m c).m)
      ∧ r.2.mem ((c.tc : Thread nD τ).loc main_v11_4) = arr2 (a := 4608) (b := 12288) (codeN (P m c).root)
      ∧ r.2.mem ((c.tc : Thread nD τ).loc main_v11_5) = arr2 (a := 4608) (b := 96) (scaleN (P m c).root)) :=
  (θ_run defs _ _).mono (fun r h c =>
    ⟨((h c).1 11).trans (final_11 m c), ((h c).1 12).trans (final_12 m c), ((h c).1 13).trans (final_13 m c), ((h c).1 14).trans (final_14 m c), ((h c).1 15).trans (final_15 m c), ((h c).1 16).trans (final_16 m c)⟩) (run_main m ρ)

end Cert.Proof.ReferenceIdeal
-- ==== Proof.Same.lean ====
module

public import proofs.«01_k».proof.Proof.Blocks
public import proofs.«01_k».proof.Proof.RefArrays
public import Idealize.ShloMosaic.Lib.Pipeline.ValueKit
public import Idealize.ShloMosaic.Lib.Claim

@[expose] public section

set_option maxRecDepth 16384

noncomputable section

/-! Given the same arguments, the kernel and the reference are given the same problem. -/

namespace Cert.Proof

open Idealize.ShloMosaic Idealize.ShloMosaic.TcCoe Idealize.ShloMosaic.Tactic

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem x_same (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    (Cert.ReferenceIdeal.Gen.V m' c Cert.ReferenceIdeal.main_v7 : (⟨2, ![24576, 4608]⟩ : Shape).Idx → EReal) = Cert.KernelIdeal.Gen.V m c Cert.KernelIdeal.main_v8 := by
  have h' : m' (c, Proc.tc.devRef Cert.ReferenceIdeal.main_arg0) = m (c, Proc.tc.devRef Cert.KernelIdeal.main_arg0) := h
  entry_read
  rw [h']
  rfl

theorem xs_same (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.ReferenceIdeal.Gen.V m' c Cert.ReferenceIdeal.main_v8 : (⟨2, ![24576, 1]⟩ : Shape).Idx → EReal) = Cert.KernelIdeal.Gen.V m c Cert.KernelIdeal.main_v9 := by
  have h' : m' (c, Proc.tc.devRef Cert.ReferenceIdeal.main_arg1) = m (c, Proc.tc.devRef Cert.KernelIdeal.main_arg1) := h
  entry_read
  rw [h']
  rfl

theorem dy_same (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    (Cert.ReferenceIdeal.Gen.V m' c Cert.ReferenceIdeal.main_v9 : (⟨2, ![24576, 12288]⟩ : Shape).Idx → EReal) = Cert.KernelIdeal.Gen.V m c Cert.KernelIdeal.main_v10 := by
  have h' : m' (c, Proc.tc.devRef Cert.ReferenceIdeal.main_arg2) = m (c, Proc.tc.devRef Cert.KernelIdeal.main_arg2) := h
  entry_read
  rw [h']
  rfl

theorem dys_same (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Gen.V m' c Cert.ReferenceIdeal.main_v10 : (⟨2, ![24576, 1]⟩ : Shape).Idx → EReal) = Cert.KernelIdeal.Gen.V m c Cert.KernelIdeal.main_v11 := by
  have h' : m' (c, Proc.tc.devRef Cert.ReferenceIdeal.main_arg3) = m (c, Proc.tc.devRef Cert.KernelIdeal.main_arg3) := h
  entry_read
  rw [h']
  rfl

theorem b1_same (h : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (Cert.ReferenceIdeal.Gen.V m' c Cert.ReferenceIdeal.main_v3 : (⟨3, ![1, 1, 1]⟩ : Shape).Idx → EReal) (ix3 0 0 0)
      = (Cert.KernelIdeal.Gen.V m c Cert.KernelIdeal.main_v7 : (⟨1, ![2]⟩ : Shape).Idx → EReal) (ix1 0) := by
  have h' : m' (c, Proc.tc.devRef Cert.ReferenceIdeal.main_arg9) = m (c, Proc.tc.devRef Cert.KernelIdeal.main_arg9) := h
  entry_read
  pointwise []
  rw [h']

theorem b2_same (h : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (Cert.ReferenceIdeal.Gen.V m' c Cert.ReferenceIdeal.main_v6 : (⟨3, ![1, 1, 1]⟩ : Shape).Idx → EReal) (ix3 0 0 0)
      = (Cert.KernelIdeal.Gen.V m c Cert.KernelIdeal.main_v7 : (⟨1, ![2]⟩ : Shape).Idx → EReal) (ix1 1) := by
  have h' : m' (c, Proc.tc.devRef Cert.ReferenceIdeal.main_arg9) = m (c, Proc.tc.devRef Cert.KernelIdeal.main_arg9) := h
  entry_read
  pointwise []
  rw [h']

/-- The problems are the same. -/
theorem same
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    ReferenceIdeal.P m' c = KernelIdeal.P m c := by
  have e4 := (Cert.ReferenceIdeal.Gen.V_main_arg4 m' c).trans (h4.trans (Cert.KernelIdeal.Gen.V_main_arg4 m c).symm)
  have e5 := (Cert.ReferenceIdeal.Gen.V_main_arg5 m' c).trans (h5.trans (Cert.KernelIdeal.Gen.V_main_arg5 m c).symm)
  have e6 := (Cert.ReferenceIdeal.Gen.V_main_arg6 m' c).trans (h6.trans (Cert.KernelIdeal.Gen.V_main_arg6 m c).symm)
  have e7 := (Cert.ReferenceIdeal.Gen.V_main_arg7 m' c).trans (h7.trans (Cert.KernelIdeal.Gen.V_main_arg7 m c).symm)
  have e8 := (Cert.ReferenceIdeal.Gen.V_main_arg8 m' c).trans (h8.trans (Cert.KernelIdeal.Gen.V_main_arg8 m c).symm)
  unfold ReferenceIdeal.P KernelIdeal.P ReferenceIdeal.Q KernelIdeal.X KernelIdeal.XS KernelIdeal.DY KernelIdeal.DYS
  rw [x_same m m' c h0, xs_same m m' c h1, dy_same m m' c h2, dys_same m m' c h3, b1_same m m' c h9, b2_same m m' c h9, e4, e5, e6, e7, e8]

end Cert.Proof
-- ==== Proof.lean ====
module

public import proofs.«01_k».proof.Defs
public import proofs.«01_k».proof.Proof.KernelRun
public import proofs.«01_k».proof.Proof.Results
public import proofs.«01_k».proof.Proof.Same

@[expose] public section

noncomputable section

namespace Cert.Proof

open Idealize.ShloMosaic Idealize.ShloMosaic.TcCoe Idealize.SL.Sem

/-- The kernel and the reference leave the same six results. -/
theorem algebraic : Cert.algebraic_KernelIdeal_ReferenceIdeal (hKernelIdeal := Cert.KernelIdeal.Gen.facts) (hReferenceIdeal := Cert.ReferenceIdeal.Gen.facts) := by
  intro m g m' g' _ h
  have e : ∀ c, ReferenceIdeal.P m' c = KernelIdeal.P m c := fun c => by
    obtain ⟨h0, h1, h2, h3, h4, h5, h6, h7, h8, h9⟩ := h c
    exact same m m' c h0 h1 h2 h3 h4 h5 h6 h7 h8 h9
  refine ⟨fun c => arr2 (a := 4608) (b := 12288) ((KernelIdeal.P m c).wn), fun c => arr2 (a := 4608) (b := 12288) ((KernelIdeal.P m c).upd), fun c => arr2 (a := 4608) (b := 12288) (codeN (KernelIdeal.P m c).m), fun c => arr2 (a := 4608) (b := 96) (scaleN (KernelIdeal.P m c).m), fun c => arr2 (a := 4608) (b := 12288) (codeN (KernelIdeal.P m c).root), fun c => arr2 (a := 4608) (b := 96) (scaleN (KernelIdeal.P m c).root), ?_, ?_⟩
  · refine (θ_run _ _ _).mono (fun r hr c => ?_) (θ_run_and (KernelIdeal.results m g) (KernelIdeal.frame m g))
    obtain ⟨r0, r1, r2, r3, r4, r5⟩ := hr.1 c
    exact ⟨r0, r1, r2, r3, r4, r5, hr.2.1 c⟩
  · refine (θ_run _ _ _).mono (fun r hr c => ?_) (θ_run_and (ReferenceIdeal.results m' g') (Cert.ReferenceIdeal.Gen.frame m' g'))
    obtain ⟨r0, r1, r2, r3, r4, r5⟩ := hr.1 c
    rw [e c] at r0 r1 r2 r3 r4 r5
    exact ⟨r0, r1, r2, r3, r4, r5, hr.2.1 c⟩

theorem claim : Cert.Claim :=
  ⟨Cert.Kernel.Gen.facts, Cert.KernelIdeal.Gen.facts, Cert.ReferenceIdeal.Gen.facts,
    fun m ρ _ => Cert.Proof.Kernel.frame m ρ,
    fun m ρ _ => Cert.Proof.KernelIdeal.frame m ρ,
    fun m ρ _ => Cert.ReferenceIdeal.Gen.frame m ρ,
    trivial, algebraic⟩

end Cert.Proof

end
